-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Experts [hPre_is_index : Cert.Pre_is_index.Facts] (m : (ℓ : Loc Cert.Experts.nD Cert.Experts.τ Cert.Experts.sig) → Buf (Elt Bits) ℓ) : Prop :=
  ∀ c : Dev Cert.Experts.nD,
    (Cert.Pre_is_index.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_is_index : Cert.Pre_is_index.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_is_index.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsRefIdeal [hPre_is_index : Cert.Pre_is_index.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_is_index.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Experts [hExperts : Cert.Experts.Facts] [hPre_is_index : Cert.Pre_is_index.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_is_index : Cert.Pre_is_index.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] [hPre_is_index : Cert.Pre_is_index.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Experts_ExpertsIdeal : Prop :=
  True

def algebraic_ExpertsIdeal_ExpertsRefIdeal [hExpertsIdeal : Cert.ExpertsIdeal.Facts] [hExpertsRefIdeal : Cert.ExpertsRefIdeal.Facts] [hPre_is_index : Cert.Pre_is_index.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v3)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v3) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v123) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v13)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v13) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v97) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsRefIdeal : Cert.ExpertsRefIdeal.Facts) (hFfn : Cert.Ffn.Facts) (hFfnIdeal : Cert.FfnIdeal.Facts) (hFfnRefIdeal : Cert.FfnRefIdeal.Facts) (hPre_finite : Cert.Pre_finite.Facts) (hPre_is_index : Cert.Pre_is_index.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_is_index := hPre_is_index)
    ∧ quiescent_ExpertsIdeal (hExpertsIdeal := hExpertsIdeal) (hPre_is_index := hPre_is_index)
    ∧ quiescent_ExpertsRefIdeal (hExpertsRefIdeal := hExpertsRefIdeal) (hPre_is_index := hPre_is_index)
    ∧ quiescent_Ffn (hFfn := hFfn)
    ∧ quiescent_FfnIdeal (hFfnIdeal := hFfnIdeal)
    ∧ quiescent_FfnRefIdeal (hFfnRefIdeal := hFfnRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsRefIdeal (hExpertsIdeal := hExpertsIdeal) (hExpertsRefIdeal := hExpertsRefIdeal) (hPre_is_index := hPre_is_index)
    ∧ preserves_Ffn_FfnIdeal
    ∧ algebraic_FfnIdeal_FfnRefIdeal (hFfnIdeal := hFfnIdeal) (hFfnRefIdeal := hFfnRefIdeal)
-- ==== Pre_finite.lean ====
abbrev S8x4096x512 : Shape := ⟨3, ![8, 4096, 512]⟩
abbrev S8x256x512 : Shape := ⟨3, ![8, 256, 512]⟩
abbrev S64 : Shape := ⟨1, ![64]⟩
abbrev S128 : Shape := ⟨1, ![128]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x256x512 : S_.BroadcastsInDim S8x256x512 (![] : Fin 0 → Fin S8x256x512.rank)
  reducesTo_S8x256x512_S_d0_1_2 : S8x256x512.ReducesTo [0, 1, 2] S_

variable [Facts]

def fn_part1 {F : FTy → Type} [FloatOps F] (main_v8 : IVec S_ 1) (main_v12 : IVec S_ 1) (main_v15 : IVec S8x256x512 1) (main_c_5 : IVec S_ 1) : IVec S_ 1 :=
  let main_v16 : IVec S_ 1 := (fun x v => Host.reduce IntOp.andi x v reducesTo_S8x256x512_S_d0_1_2 h_S_) main_v15 main_c_5
  let main_v17 : IVec S_ 1 := andi main_v12 main_v16
  let main_v18 : IVec S_ 1 := andi main_v8 main_v17
  main_v18

def fn {F : FTy → Type} [FloatOps F] (main_arg0 : FVec F S8x4096x512 .f32) (main_arg1 : FVec F S8x4096x512 .f32) (main_arg2 : FVec F S8x4096x512 .f32) (main_arg3 : FVec F S8x256x512 .f32) (main_arg4 : FVec F S8x256x512 .f32) (main_arg5 : FVec F S8x256x512 .f32) (main_arg6 : FVec F S64 .f32) (main_arg7 : FVec F S64 .f32) (main_arg8 : FVec F S64 .f32) (main_arg9 : FVec F S64 .f32) (main_arg10 : FVec F S128 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  let main_v9 : FVec F S8x256x512 .f32 := Host.absf main_arg3
  let main_cst_2 : FVec F S_ .f32 := constant S_ .f32 0x7F800000#32
  let main_v10 : FVec F S8x256x512 .f32 := broadcastInDim S8x256x512 ![] bcast_S_S8x256x512 main_cst_2
  let main_v11 : IVec S8x256x512 1 := cmpf .olt main_v9 main_v10
  let main_c_3 : IVec S_ 1 := constantI S_ 1 1#1
  let main_v12 : IVec S_ 1 := (fun x v => Host.reduce IntOp.andi x v reducesTo_S8x256x512_S_d0_1_2 h_S_) main_v11 main_c_3
  let main_v13 : FVec F S8x256x512 .f32 := Host.absf main_arg4
  let main_cst_4 : FVec F S_ .f32 := constant S_ .f32 0x7F800000#32
  let main_v14 : FVec F S8x256x512 .f32 := broadcastInDim S8x256x512 ![] bcast_S_S8x256x512 main_cst_4
  let main_v15 : IVec S8x256x512 1 := cmpf .olt main_v13 main_v14
  let main_c_5 : IVec S_ 1 := constantI S_ 1 1#1
  fn_part1 (F := F) main_v8 main_v12 main_v15 main_c_5
-- ==== Pre_is_index.lean ====
abbrev S144 : Shape := ⟨1, ![144]⟩
abbrev S73728x1024 : Shape := ⟨2, ![73728, 1024]⟩
abbrev S8x1024x1408 : Shape := ⟨3, ![8, 1024, 1408]⟩
abbrev S8x1408x1024 : Shape := ⟨3, ![8, 1408, 1024]⟩
abbrev S_ : Shape := ⟨0, ![]⟩

class Facts : Prop where
  bcast_S_S144 : S_.BroadcastsInDim S144 (![] : Fin 0 → Fin S144.rank)
  reducesTo_S144_S_d0 : S144.ReducesTo [0] S_
  h_S_ : 0 < S_.numel

variable [Facts]

def fn {F : FTy → Type} [FloatOps F] (main_arg0 : IVec S144 32) (main_arg1 : FVec F S73728x1024 .f32) (main_arg2 : FVec F S8x1024x1408 .f32) (main_arg3 : FVec F S8x1024x1408 .f32) (main_arg4 : FVec F S8x1408x1024 .f32) : IVec S_ 1 :=
  let main_c : IVec S_ 32 := constantI S_ 32 0#32
  let main_v0 : IVec S144 32 := broadcastInDim S144 ![] bcast_S_S144 main_c
  let main_v1 : IVec S144 1 := cmpi .sge main_arg0 main_v0
  let main_c_0 : IVec S_ 1 := constantI S_ 1 1#1
  let main_v2 : IVec S_ 1 := (fun x v => Host.reduce IntOp.andi x v reducesTo_S144_S_d0 h_S_) main_v1 main_c_0
  main_v2
-- ==== Kernel.lean ====
abbrev S8x4096x512 : Shape := ⟨3, ![8, 4096, 512]⟩
abbrev S8x256x512 : Shape := ⟨3, ![8, 256, 512]⟩
abbrev S64 : Shape := ⟨1, ![64]⟩
abbrev S128 : Shape := ⟨1, ![128]⟩
abbrev S8x4352x512 : Shape := ⟨3, ![8, 4352, 512]⟩
abbrev S_ : Shape := ⟨0, ![]⟩
abbrev S8x4352x4x2x128 : Shape := ⟨5, ![8, 4352, 4, 2, 128]⟩
abbrev S8x4352x4x1x128 : Shape := ⟨5, ![8, 4352, 4, 1, 128]⟩
abbrev S8x4352x8x128 : Shape := ⟨4, ![8, 4352, 8, 128]⟩
abbrev S8x8x4352x128 : Shape := ⟨4, ![8, 8, 4352, 128]⟩
abbrev S8x4352x4x128 : Shape := ⟨4, ![8, 4352, 4, 128]⟩
abbrev S8x4x4352x128 : Shape := ⟨4, ![8, 4, 4352, 128]⟩
abbrev S8x4x4352x256 : Shape := ⟨4, ![8, 4, 4352, 256]⟩
abbrev S1x64 : Shape := ⟨2, ![1, 64]⟩
abbrev S4x64 : Shape := ⟨2, ![4, 64]⟩
abbrev S1x128 : Shape := ⟨2, ![1, 128]⟩
abbrev S1x8x256x128 : Shape := ⟨4, ![1, 8, 256, 128]⟩
abbrev S1x4x4352x128 : Shape := ⟨4, ![1, 4, 4352, 128]⟩
abbrev S1x4x4352x256 : Shape := ⟨4, ![1, 4, 4352, 256]⟩
abbrev S1x256x512 : Shape := ⟨3, ![1, 256, 512]⟩
abbrev S1 : Shape := ⟨1, ![1]⟩
abbrev S1x1 : Shape := ⟨2, ![1, 1]⟩
abbrev S1x2x256x128 : Shape := ⟨4, ![1, 2, 256, 128]⟩
abbrev S2x256x128 : Shape := ⟨3, ![2, 256, 128]⟩
abbrev S512x128 : Shape := ⟨2, ![512, 128]⟩
abbrev S1x1x4352x128 : Shape := ⟨4, ![1, 1, 4352, 128]⟩
abbrev S4352x128 : Shape := ⟨2, ![4352, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S1x1x4352x256 : Shape := ⟨4, ![1, 1, 4352, 256]⟩
abbrev S4352x256 : Shape := ⟨2, ![4352, 256]⟩
abbrev S256x256 : Shape := ⟨2, ![256, 256]⟩
abbrev S256 : Shape := ⟨1, ![256]⟩
abbrev S256x1 : Shape := ⟨2, ![256, 1]⟩
abbrev S1x256x128 : Shape := ⟨3, ![1, 256, 128]⟩
abbrev S512x4352 : Shape := ⟨2, ![512, 4352]⟩

abbrev nBuf : Space → Nat
  | .hbm => 66
  | .vmem => 10
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x256x512, .f32⟩
  | .hbm, ⟨4, _⟩ => ⟨S8x256x512, .f32⟩
  | .hbm, ⟨5, _⟩ => ⟨S8x256x512, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S128, .f32⟩
  | .hbm, ⟨11, _⟩ => ⟨S8x4352x512, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x4352x512, .f32⟩
  | .hbm, ⟨17, _⟩ => ⟨S8x4352x512, .f32⟩
  | .hbm, ⟨18, _⟩ => ⟨S8x4352x512, .f32⟩
  | .hbm, ⟨19, _⟩ => ⟨S8x4352x512, .f32⟩
  | .hbm, ⟨20, _⟩ => ⟨S8x4352x4x2x128, .i32⟩
  | .hbm, ⟨21, _⟩ => ⟨S8x4352x4x2x128, .i32⟩
  | .hbm, ⟨22, _⟩ => ⟨S8x4352x4x1x128, .f32⟩
  | .hbm, ⟨23, _⟩ => ⟨S8x4352x4x2x128, .f32⟩
  | .hbm, ⟨24, _⟩ => ⟨S_, .i32⟩
  | .hbm, ⟨25, _⟩ => ⟨S_, .i32⟩
  | .hbm, ⟨26, _⟩ => ⟨S8x4352x4x2x128, .i32⟩
  | .hbm, ⟨27, _⟩ => ⟨S8x4352x4x2x128, .i32⟩
  | .hbm, ⟨28, _⟩ => ⟨S8x4352x4x2x128, .i32⟩
  | .hbm, ⟨29, _⟩ => ⟨S_, .i32⟩
  | .hbm, ⟨30, _⟩ => ⟨S8x4352x4x2x128, .i32⟩
  | .hbm, ⟨31, _⟩ => ⟨S8x4352x4x2x128, .i1⟩
  | .hbm, ⟨32, _⟩ => ⟨S8x4352x4x2x128, .i32⟩
  | .hbm, ⟨33, _⟩ => ⟨S8x4352x4x2x128, .i32⟩
  | .hbm, ⟨34, _⟩ => ⟨S_, .i32⟩
  | .hbm, ⟨35, _⟩ => ⟨S8x4352x4x2x128, .i32⟩
  | .hbm, ⟨36, _⟩ => ⟨S8x4352x4x2x128, .i1⟩
  | .hbm, ⟨37, _⟩ => ⟨S8x4352x4x2x128, .i1⟩
  | .hbm, ⟨38, _⟩ => ⟨S_, .i32⟩
  | .hbm, ⟨39, _⟩ => ⟨S8x4352x4x2x128, .i32⟩
  | .hbm, ⟨40, _⟩ => ⟨S8x4352x4x2x128, .i32⟩
  | .hbm, ⟨41, _⟩ => ⟨S8x4352x4x2x128, .i32⟩
  | .hbm, ⟨42, _⟩ => ⟨S8x4352x4x2x128, .i1⟩
  | .hbm, ⟨43, _⟩ => ⟨S_, .f32⟩
  | .hbm, ⟨44, _⟩ => ⟨S_, .f32⟩
  | .hbm, ⟨45, _⟩ => ⟨S8x4352x4x2x128, .f32⟩
  | .hbm, ⟨46, _⟩ => ⟨S8x4352x4x2x128, .f32⟩
  | .hbm, ⟨47, _⟩ => ⟨S8x4352x4x2x128, .bf16⟩
  | .hbm, ⟨48, _⟩ => ⟨S8x4352x8x128, .bf16⟩
  | .hbm, ⟨49, _⟩ => ⟨S8x8x4352x128, .bf16⟩
  | .hbm, ⟨50, _⟩ => ⟨S8x4352x512, .bf16⟩
  | .hbm, ⟨51, _⟩ => ⟨S8x4352x4x128, .bf16⟩
  | .hbm, ⟨52, _⟩ => ⟨S8x4x4352x128, .bf16⟩
  | .hbm, ⟨53, _⟩ => ⟨S8x4352x512, .bf16⟩
  | .hbm, ⟨54, _⟩ => ⟨S8x4352x4x128, .bf16⟩
  | .hbm, ⟨55, _⟩ => ⟨S8x4x4352x128, .bf16⟩
  | .hbm, ⟨56, _⟩ => ⟨S_, .bf16⟩
  | .hbm, ⟨57, _⟩ => ⟨S8x4x4352x128, .bf16⟩
  | .hbm, ⟨58, _⟩ => ⟨S8x4x4352x256, .bf16⟩
  | .hbm, ⟨59, _⟩ => ⟨S1x64, .f32⟩
  | .hbm, ⟨60, _⟩ => ⟨S1x64, .f32⟩
  | .hbm, ⟨61, _⟩ => ⟨S1x64, .f32⟩
  | .hbm, ⟨62, _⟩ => ⟨S1x64, .f32⟩
  | .hbm, ⟨63, _⟩ => ⟨S4x64, .f32⟩
  | .hbm, ⟨64, _⟩ => ⟨S1x128, .f32⟩
  | .hbm, ⟨65, _⟩ => ⟨S8x4352x512, .bf16⟩
  | .local _ .vmem, ⟨0, _⟩ => ⟨S1x8x256x128, .bf16⟩
  | .local _ .vmem, ⟨1, _⟩ => ⟨S1x8x256x128, .bf16⟩
  | .local _ .vmem, ⟨2, _⟩ => ⟨S1x4x4352x128, .bf16⟩
  | .local _ .vmem, ⟨3, _⟩ => ⟨S1x4x4352x128, .bf16⟩
  | .local _ .vmem, ⟨4, _⟩ => ⟨S1x4x4352x256, .bf16⟩
  | .local _ .vmem, ⟨5, _⟩ => ⟨S1x4x4352x256, .bf16⟩
  | .local _ .vmem, ⟨6, _⟩ => ⟨S4x64, .f32⟩
  | .local _ .vmem, ⟨7, _⟩ => ⟨S1x128, .f32⟩
  | .local _ .vmem, ⟨8, _⟩ => ⟨S1x256x512, .bf16⟩
  | .local _ .vmem, ⟨9, _⟩ => ⟨S1x256x512, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v11 : Ref sig .tc := ⟨.hbm, 41, rfl⟩
abbrev main_v12 : Ref sig .tc := ⟨.hbm, 42, rfl⟩
abbrev main_cst_1 : Ref sig .tc := ⟨.hbm, 43, rfl⟩
abbrev main_call1_v0 : Ref sig .tc := ⟨.hbm, 44, rfl⟩
abbrev main_call1_v1 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_2 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 17], ![false, false]⟩

def k0_cond1 (i : grid0.Coords) : BitVec 1 :=
  let arg1 : BitVec 32 := BitVec.ofNat 32 (i 1).val
  let c0_i32 : BitVec 32 := 0#32
  let v17 : BitVec 1 := Scalar.cmpi .eq arg1 c0_i32
  let v18 : BitVec 32 := Scalar.extui v17
  let c0_i32_3 : BitVec 32 := 0#32
  let v19 : BitVec 1 := Scalar.cmpi .ne v18 c0_i32_3
  v19

def k0_cond2 (i : grid0.Coords) : BitVec 1 :=
  let arg1 : BitVec 32 := BitVec.ofNat 32 (i 1).val
  let c0_i32_4 : BitVec 32 := 0#32
  let v20 : BitVec 1 := Scalar.cmpi .sgt arg1 c0_i32_4
  let v21 : BitVec 32 := Scalar.extui v20
  let c0_i32_5 : BitVec 32 := 0#32
  let v22 : BitVec 1 := Scalar.cmpi .ne v21 c0_i32_5
  v22

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x4096x512 : Shape := ⟨3, ![8, 4096, 512]⟩
abbrev S8x256x512 : Shape := ⟨3, ![8, 256, 512]⟩
abbrev S64 : Shape := ⟨1, ![64]⟩
abbrev S128 : Shape := ⟨1, ![128]⟩
abbrev S8x4096x8x64 : Shape := ⟨4, ![8, 4096, 8, 64]⟩
abbrev S8x8x4096x64 : Shape := ⟨4, ![8, 8, 4096, 64]⟩
abbrev S8x4096x4x128 : Shape := ⟨4, ![8, 4096, 4, 128]⟩
abbrev S8x4x4096x128 : Shape := ⟨4, ![8, 4, 4096, 128]⟩
abbrev S8x4x2x4096x128 : Shape := ⟨5, ![8, 4, 2, 4096, 128]⟩
abbrev S8x8x4096x128 : Shape := ⟨4, ![8, 8, 4096, 128]⟩
abbrev S8x256x8x64 : Shape := ⟨4, ![8, 256, 8, 64]⟩
abbrev S8x8x256x64 : Shape := ⟨4, ![8, 8, 256, 64]⟩
abbrev S8x256x4x128 : Shape := ⟨4, ![8, 256, 4, 128]⟩
abbrev S8x4x256x128 : Shape := ⟨4, ![8, 4, 256, 128]⟩
abbrev S8x4x2x256x128 : Shape := ⟨5, ![8, 4, 2, 256, 128]⟩
abbrev S8x8x256x128 : Shape := ⟨4, ![8, 8, 256, 128]⟩
abbrev S_ : Shape := ⟨0, ![]⟩
abbrev S8x8x4352x64 : Shape := ⟨4, ![8, 8, 4352, 64]⟩
abbrev S8x8x4352x128 : Shape := ⟨4, ![8, 8, 4352, 128]⟩
abbrev S8x8x4096x4352 : Shape := ⟨4, ![8, 8, 4096, 4352]⟩
abbrev S8x8x4096 : Shape := ⟨3, ![8, 8, 4096]⟩
abbrev S8x8x4096x1 : Shape := ⟨4, ![8, 8, 4096, 1]⟩
abbrev S8x4x1x4096x128 : Shape := ⟨5, ![8, 4, 1, 4096, 128]⟩
abbrev S8x4x4096 : Shape := ⟨3, ![8, 4, 4096]⟩
abbrev S8x4x4096x1 : Shape := ⟨4, ![8, 4, 4096, 1]⟩
abbrev S1x1x1x128 : Shape := ⟨4, ![1, 1, 1, 128]⟩
abbrev S8x8x256x256 : Shape := ⟨4, ![8, 8, 256, 256]⟩
abbrev S8x8x256 : Shape := ⟨3, ![8, 8, 256]⟩
abbrev S8x8x256x1 : Shape := ⟨4, ![8, 8, 256, 1]⟩
abbrev S8x4x1x256x128 : Shape := ⟨5, ![8, 4, 1, 256, 128]⟩
abbrev S8x4x256 : Shape := ⟨3, ![8, 4, 256]⟩
abbrev S8x4x256x1 : Shape := ⟨4, ![8, 4, 256, 1]⟩
abbrev S8x4352x512 : Shape := ⟨3, ![8, 4352, 512]⟩

abbrev nBuf : Space → Nat
  | .hbm => 138
  | .vmem => 0
  | .smem => 0
  | _ => 0

abbrev hbmTy0_0 (i : Nat) : BufTy := match i % 128 with
  | 0 => ⟨S8x4096x512, .f32⟩
  | 1 => ⟨S8x4096x512, .f32⟩
  | 2 => ⟨S8x4096x512, .f32⟩
  | 3 => ⟨S8x256x512, .f32⟩
  | 4 => ⟨S8x256x512, .f32⟩
  | 5 => ⟨S8x256x512, .f32⟩
  | 6 => ⟨S64, .f32⟩
  | 7 => ⟨S64, .f32⟩
  | 8 => ⟨S64, .f32⟩
  | 9 => ⟨S64, .f32⟩
  | 10 => ⟨S128, .f32⟩
  | 11 => ⟨S8x4096x8x64, .f32⟩
  | 12 => ⟨S8x8x4096x64, .f32⟩
  | 13 => ⟨S8x4096x8x64, .f32⟩
  | 14 => ⟨S8x8x4096x64, .f32⟩
  | 15 => ⟨S8x4096x4x128, .f32⟩
  | 16 => ⟨S8x4x4096x128, .f32⟩
  | 17 => ⟨S8x4x2x4096x128, .f32⟩
  | 18 => ⟨S8x8x4096x128, .f32⟩
  | 19 => ⟨S8x256x8x64, .f32⟩
  | 20 => ⟨S8x8x256x64, .f32⟩
  | 21 => ⟨S8x256x8x64, .f32⟩
  | 22 => ⟨S8x8x256x64, .f32⟩
  | 23 => ⟨S8x256x4x128, .f32⟩
  | 24 => ⟨S8x4x256x128, .f32⟩
  | 25 => ⟨S8x4x2x256x128, .f32⟩
  | 26 => ⟨S8x8x256x128, .f32⟩
  | 27 => ⟨S64, .f32⟩
  | 28 => ⟨S_, .f32⟩
  | 29 => ⟨S_, .f32⟩
  | 30 => ⟨S_, .f32⟩
  | 31 => ⟨S64, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S8x8x4352x64, .f32⟩
  | 39 => ⟨S8x8x4352x128, .f32⟩
  | 40 => ⟨S8x8x4096x4352, .f32⟩
  | 41 => ⟨S_, .f32⟩
  | 42 => ⟨S8x8x4096x4352, .f32⟩
  | 43 => ⟨S8x8x4096x4352, .f32⟩
  | 44 => ⟨S_, .f32⟩
  | 45 => ⟨S8x8x4096, .f32⟩
  | 46 => ⟨S_, .f32⟩
  | 47 => ⟨S8x8x4096, .f32⟩
  | 48 => ⟨S8x8x4096, .f32⟩
  | 49 => ⟨S8x8x4096x1, .f32⟩
  | 50 => ⟨S8x8x4096x4352, .f32⟩
  | 51 => ⟨S8x8x4096x4352, .f32⟩
  | 52 => ⟨S8x8x4096x4352, .f32⟩
  | 53 => ⟨S_, .f32⟩
  | 54 => ⟨S8x8x4096, .f32⟩
  | 55 => ⟨S8x8x4096x1, .f32⟩
  | 56 => ⟨S8x8x4096x4352, .f32⟩
  | 57 => ⟨S8x8x4096x4352, .f32⟩
  | 58 => ⟨S8x8x4096x128, .f32⟩
  | 59 => ⟨S8x4x2x4096x128, .f32⟩
  | 60 => ⟨S8x4x1x4096x128, .f32⟩
  | 61 => ⟨S8x4x4096x128, .f32⟩
  | 62 => ⟨S8x4x1x4096x128, .f32⟩
  | 63 => ⟨S8x4x4096x128, .f32⟩
  | 64 => ⟨S8x4x4096x128, .f32⟩
  | 65 => ⟨S8x4x4096x128, .f32⟩
  | 66 => ⟨S8x4x4096x128, .f32⟩
  | 67 => ⟨S8x4x4096x128, .f32⟩
  | 68 => ⟨S_, .f32⟩
  | 69 => ⟨S8x4x4096, .f32⟩
  | 70 => ⟨S8x4x4096x1, .f32⟩
  | 71 => ⟨S_, .f32⟩
  | 72 => ⟨S8x4x4096x1, .f32⟩
  | 73 => ⟨S8x4x4096x1, .f32⟩
  | 74 => ⟨S_, .f32⟩
  | 75 => ⟨S8x4x4096x1, .f32⟩
  | 76 => ⟨S8x4x4096x1, .f32⟩
  | 77 => ⟨S8x4x4096x1, .f32⟩
  | 78 => ⟨S8x4x4096x128, .f32⟩
  | 79 => ⟨S8x4x4096x128, .f32⟩
  | 80 => ⟨S1x1x1x128, .f32⟩
  | 81 => ⟨S8x4x4096x128, .f32⟩
  | 82 => ⟨S8x4x4096x128, .f32⟩
  | 83 => ⟨S_, .f32⟩
  | 84 => ⟨S8x4x4096x128, .f32⟩
  | 85 => ⟨S8x4x4096x128, .f32⟩
  | 86 => ⟨S8x4096x4x128, .f32⟩
  | 87 => ⟨S8x4096x512, .f32⟩
  | 88 => ⟨S8x8x256x256, .f32⟩
  | 89 => ⟨S_, .f32⟩
  | 90 => ⟨S8x8x256x256, .f32⟩
  | 91 => ⟨S8x8x256x256, .f32⟩
  | 92 => ⟨S_, .f32⟩
  | 93 => ⟨S8x8x256, .f32⟩
  | 94 => ⟨S_, .f32⟩
  | 95 => ⟨S8x8x256, .f32⟩
  | 96 => ⟨S8x8x256, .f32⟩
  | 97 => ⟨S8x8x256x1, .f32⟩
  | 98 => ⟨S8x8x256x256, .f32⟩
  | 99 => ⟨S8x8x256x256, .f32⟩
  | 100 => ⟨S8x8x256x256, .f32⟩
  | 101 => ⟨S_, .f32⟩
  | 102 => ⟨S8x8x256, .f32⟩
  | 103 => ⟨S8x8x256x1, .f32⟩
  | 104 => ⟨S8x8x256x256, .f32⟩
  | 105 => ⟨S8x8x256x256, .f32⟩
  | 106 => ⟨S8x8x256x128, .f32⟩
  | 107 => ⟨S8x4x2x256x128, .f32⟩
  | 108 => ⟨S8x4x1x256x128, .f32⟩
  | 109 => ⟨S8x4x256x128, .f32⟩
  | 110 => ⟨S8x4x1x256x128, .f32⟩
  | 111 => ⟨S8x4x256x128, .f32⟩
  | 112 => ⟨S8x4x256x128, .f32⟩
  | 113 => ⟨S8x4x256x128, .f32⟩
  | 114 => ⟨S8x4x256x128, .f32⟩
  | 115 => ⟨S8x4x256x128, .f32⟩
  | 116 => ⟨S_, .f32⟩
  | 117 => ⟨S8x4x256, .f32⟩
  | 118 => ⟨S8x4x256x1, .f32⟩
  | 119 => ⟨S_, .f32⟩
  | 120 => ⟨S8x4x256x1, .f32⟩
  | 121 => ⟨S8x4x256x1, .f32⟩
  | 122 => ⟨S_, .f32⟩
  | 123 => ⟨S8x4x256x1, .f32⟩
  | 124 => ⟨S8x4x256x1, .f32⟩
  | 125 => ⟨S8x4x256x1, .f32⟩
  | 126 => ⟨S8x4x256x128, .f32⟩
  | 127 => ⟨S8x4x256x128, .f32⟩
  | _ => ⟨S8x4096x512, .f32⟩

abbrev hbmTy0_1 (i : Nat) : BufTy := match i % 128 with
  | 0 => ⟨S1x1x1x128, .f32⟩
  | 1 => ⟨S8x4x256x128, .f32⟩
  | 2 => ⟨S8x4x256x128, .f32⟩
  | 3 => ⟨S_, .f32⟩
  | 4 => ⟨S8x4x256x128, .f32⟩
  | 5 => ⟨S8x4x256x128, .f32⟩
  | 6 => ⟨S8x256x4x128, .f32⟩
  | 7 => ⟨S8x256x512, .f32⟩
  | 8 => ⟨S8x4352x512, .f32⟩
  | 9 => ⟨S8x4352x512, .bf16⟩
  | _ => ⟨S8x4096x512, .f32⟩

abbrev hbmTy (i : Nat) : BufTy := match i / 128 with
  | 0 => hbmTy0_0 i
  | 1 => hbmTy0_1 i
  | _ => ⟨S8x4096x512, .f32⟩

abbrev bufTy : (tb : Table) → Fin (tcTables nBuf tb) → BufTy
  | .hbm, ⟨i, _⟩ => hbmTy i
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_9 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_10 : Ref sig .tc := ⟨.hbm, 89, rfl⟩
abbrev main_v67 : Ref sig .tc := ⟨.hbm, 90, rfl⟩
abbrev main_v68 : Ref sig .tc := ⟨.hbm, 91, rfl⟩
abbrev main_cst_11 : Ref sig .tc := ⟨.hbm, 92, rfl⟩
abbrev main_v69 : Ref sig .tc := ⟨.hbm, 93, rfl⟩
abbrev main_cst_12 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_13 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_14 : Ref sig .tc := ⟨.hbm, 116, rfl⟩
abbrev main_v90 : Ref sig .tc := ⟨.hbm, 117, rfl⟩
abbrev main_v91 : Ref sig .tc := ⟨.hbm, 118, rfl⟩
abbrev main_cst_15 : Ref sig .tc := ⟨.hbm, 119, rfl⟩
abbrev main_v92 : Ref sig .tc := ⟨.hbm, 120, rfl⟩
abbrev main_v93 : Ref sig .tc := ⟨.hbm, 121, rfl⟩
abbrev main_cst_16 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_17 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩

abbrev nD : Nat := 1
abbrev τ : Topo := Topo.v7x

variable {F : FTy → Type} [FloatOps F]
-- ==== Experts.lean ====
abbrev S144 : Shape := ⟨1, ![144]⟩
abbrev S73728x1024 : Shape := ⟨2, ![73728, 1024]⟩
abbrev S8x1024x1408 : Shape := ⟨3, ![8, 1024, 1408]⟩
abbrev S8x1408x1024 : Shape := ⟨3, ![8, 1408, 1024]⟩
abbrev S512x1024 : Shape := ⟨2, ![512, 1024]⟩
abbrev S1x1024x1408 : Shape := ⟨3, ![1, 1024, 1408]⟩
abbrev S1 : Shape := ⟨1, ![1]⟩
abbrev S1x1408x1024 : Shape := ⟨3, ![1, 1408, 1024]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 8
  | .vmem => 10
  | .smem => 1
  | _ => 0

abbrev bufTy : (tb : Table) → Fin (tcTables nBuf tb) → BufTy
  | .hbm, ⟨0, _⟩ => ⟨S73728x1024, .f32⟩
  | .hbm, ⟨1, _⟩ => ⟨S8x1024x1408, .f32⟩
  | .hbm, ⟨2, _⟩ => ⟨S8x1024x1408, .f32⟩
  | .hbm, ⟨3, _⟩ => ⟨S8x1408x1024, .f32⟩
  | .hbm, ⟨4, _⟩ => ⟨S8x1024x1408, .bf16⟩
  | .hbm, ⟨5, _⟩ => ⟨S8x1024x1408, .bf16⟩
  | .hbm, ⟨6, _⟩ => ⟨S8x1408x1024, .bf16⟩
  | .hbm, ⟨7, _⟩ => ⟨S73728x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1408x1024, .bf16⟩
  | .local _ .vmem, ⟨7, _⟩ => ⟨S1x1408x1024, .bf16⟩
  | .local _ .vmem, ⟨8, _⟩ => ⟨S512x1024, .f32⟩
  | .local _ .vmem, ⟨9, _⟩ => ⟨S512x1024, .f32⟩
  | .local _ .smem, ⟨0, _⟩ => ⟨S144, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![144], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c8_i32 : BitVec 32 := 8#32
  let v2 : BitVec 1 := Scalar.cmpi .slt v1 c8_i32
  let v3 : BitVec 32 := Scalar.extui v2
  let c0_i32 : BitVec 32 := 0#32
  let v4 : BitVec 1 := Scalar.cmpi .ne v3 c0_i32
  v4

def k0_cond2 (v1 : BitVec 32) : BitVec 1 :=
  let c8_i32 : BitVec 32 := 8#32
  let v2 : BitVec 1 := Scalar.cmpi .slt v1 c8_i32
  let v_true : BitVec 1 := 1#1
  let v5 : BitVec 1 := Scalar.xori v2 v_true
  let v6 : BitVec 32 := Scalar.extui v5
  let c0_i32_0 : BitVec 32 := 0#32
  let v7 : BitVec 1 := Scalar.cmpi .ne v6 c0_i32_0
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc0_transform_2 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S144 : Shape := ⟨1, ![144]⟩
abbrev S73728x1024 : Shape := ⟨2, ![73728, 1024]⟩
abbrev S8x1024x1408 : Shape := ⟨3, ![8, 1024, 1408]⟩
abbrev S8x1408x1024 : Shape := ⟨3, ![8, 1408, 1024]⟩
abbrev S144x512 : Shape := ⟨2, ![144, 512]⟩
abbrev S73728 : Shape := ⟨1, ![73728]⟩
abbrev S73728x1 : Shape := ⟨2, ![73728, 1]⟩
abbrev S1x8 : Shape := ⟨2, ![1, 8]⟩
abbrev S73728x8 : Shape := ⟨2, ![73728, 8]⟩
abbrev S_ : Shape := ⟨0, ![]⟩
abbrev S1x1024x1408 : Shape := ⟨3, ![1, 1024, 1408]⟩
abbrev S1024x1408 : Shape := ⟨2, ![1024, 1408]⟩
abbrev S1x1408x1024 : Shape := ⟨3, ![1, 1408, 1024]⟩
abbrev S1408x1024 : Shape := ⟨2, ![1408, 1024]⟩
abbrev S73728x1408 : Shape := ⟨2, ![73728, 1408]⟩

abbrev nBuf : Space → Nat
  | .hbm => 199
  | .vmem => 0
  | .smem => 0
  | _ => 0

abbrev hbmTy0_0 (i : Nat) : BufTy := match i % 128 with
  | 0 => ⟨S144, .i32⟩
  | 1 => ⟨S73728x1024, .f32⟩
  | 2 => ⟨S8x1024x1408, .f32⟩
  | 3 => ⟨S8x1024x1408, .f32⟩
  | 4 => ⟨S8x1408x1024, .f32⟩
  | 5 => ⟨S144x512, .i32⟩
  | 6 => ⟨S73728, .i32⟩
  | 7 => ⟨S73728x1, .i32⟩
  | 8 => ⟨S1x8, .i32⟩
  | 9 => ⟨S73728x8, .i32⟩
  | 10 => ⟨S73728x8, .i32⟩
  | 11 => ⟨S73728x8, .i1⟩
  | 12 => ⟨S73728x8, .f32⟩
  | 13 => ⟨S_, .f32⟩
  | 14 => ⟨S73728x1024, .f32⟩
  | 15 => ⟨S73728x1, .f32⟩
  | 16 => ⟨S1x1024x1408, .f32⟩
  | 17 => ⟨S1024x1408, .f32⟩
  | 18 => ⟨S1x1024x1408, .f32⟩
  | 19 => ⟨S1024x1408, .f32⟩
  | 20 => ⟨S1x1408x1024, .f32⟩
  | 21 => ⟨S1408x1024, .f32⟩
  | 22 => ⟨S73728x1408, .f32⟩
  | 23 => ⟨S73728x1408, .f32⟩
  | 24 => ⟨S73728x1408, .f32⟩
  | 25 => ⟨S_, .f32⟩
  | 26 => ⟨S73728x1408, .f32⟩
  | 27 => ⟨S73728x1408, .f32⟩
  | 28 => ⟨S_, .f32⟩
  | 29 => ⟨S73728x1408, .f32⟩
  | 30 => ⟨S73728x1408, .f32⟩
  | 31 => ⟨S73728x1408, .f32⟩
  | 32 => ⟨S73728x1408, .f32⟩
  | 33 => ⟨S73728x1408, .f32⟩
  | 34 => ⟨S73728x1024, .f32⟩
  | 35 => ⟨S73728x1024, .f32⟩
  | 36 => ⟨S73728x1024, .f32⟩
  | 37 => ⟨S73728x1024, .f32⟩
  | 38 => ⟨S73728x1, .f32⟩
  | 39 => ⟨S1x1024x1408, .f32⟩
  | 40 => ⟨S1024x1408, .f32⟩
  | 41 => ⟨S1x1024x1408, .f32⟩
  | 42 => ⟨S1024x1408, .f32⟩
  | 43 => ⟨S1x1408x1024, .f32⟩
  | 44 => ⟨S1408x1024, .f32⟩
  | 45 => ⟨S73728x1408, .f32⟩
  | 46 => ⟨S73728x1408, .f32⟩
  | 47 => ⟨S73728x1408, .f32⟩
  | 48 => ⟨S_, .f32⟩
  | 49 => ⟨S73728x1408, .f32⟩
  | 50 => ⟨S73728x1408, .f32⟩
  | 51 => ⟨S_, .f32⟩
  | 52 => ⟨S73728x1408, .f32⟩
  | 53 => ⟨S73728x1408, .f32⟩
  | 54 => ⟨S73728x1408, .f32⟩
  | 55 => ⟨S73728x1408, .f32⟩
  | 56 => ⟨S73728x1408, .f32⟩
  | 57 => ⟨S73728x1024, .f32⟩
  | 58 => ⟨S73728x1024, .f32⟩
  | 59 => ⟨S73728x1024, .f32⟩
  | 60 => ⟨S73728x1024, .f32⟩
  | 61 => ⟨S73728x1, .f32⟩
  | 62 => ⟨S1x1024x1408, .f32⟩
  | 63 => ⟨S1024x1408, .f32⟩
  | 64 => ⟨S1x1024x1408, .f32⟩
  | 65 => ⟨S1024x1408, .f32⟩
  | 66 => ⟨S1x1408x1024, .f32⟩
  | 67 => ⟨S1408x1024, .f32⟩
  | 68 => ⟨S73728x1408, .f32⟩
  | 69 => ⟨S73728x1408, .f32⟩
  | 70 => ⟨S73728x1408, .f32⟩
  | 71 => ⟨S_, .f32⟩
  | 72 => ⟨S73728x1408, .f32⟩
  | 73 => ⟨S73728x1408, .f32⟩
  | 74 => ⟨S_, .f32⟩
  | 75 => ⟨S73728x1408, .f32⟩
  | 76 => ⟨S73728x1408, .f32⟩
  | 77 => ⟨S73728x1408, .f32⟩
  | 78 => ⟨S73728x1408, .f32⟩
  | 79 => ⟨S73728x1408, .f32⟩
  | 80 => ⟨S73728x1024, .f32⟩
  | 81 => ⟨S73728x1024, .f32⟩
  | 82 => ⟨S73728x1024, .f32⟩
  | 83 => ⟨S73728x1024, .f32⟩
  | 84 => ⟨S73728x1, .f32⟩
  | 85 => ⟨S1x1024x1408, .f32⟩
  | 86 => ⟨S1024x1408, .f32⟩
  | 87 => ⟨S1x1024x1408, .f32⟩
  | 88 => ⟨S1024x1408, .f32⟩
  | 89 => ⟨S1x1408x1024, .f32⟩
  | 90 => ⟨S1408x1024, .f32⟩
  | 91 => ⟨S73728x1408, .f32⟩
  | 92 => ⟨S73728x1408, .f32⟩
  | 93 => ⟨S73728x1408, .f32⟩
  | 94 => ⟨S_, .f32⟩
  | 95 => ⟨S73728x1408, .f32⟩
  | 96 => ⟨S73728x1408, .f32⟩
  | 97 => ⟨S_, .f32⟩
  | 98 => ⟨S73728x1408, .f32⟩
  | 99 => ⟨S73728x1408, .f32⟩
  | 100 => ⟨S73728x1408, .f32⟩
  | 101 => ⟨S73728x1408, .f32⟩
  | 102 => ⟨S73728x1408, .f32⟩
  | 103 => ⟨S73728x1024, .f32⟩
  | 104 => ⟨S73728x1024, .f32⟩
  | 105 => ⟨S73728x1024, .f32⟩
  | 106 => ⟨S73728x1024, .f32⟩
  | 107 => ⟨S73728x1, .f32⟩
  | 108 => ⟨S1x1024x1408, .f32⟩
  | 109 => ⟨S1024x1408, .f32⟩
  | 110 => ⟨S1x1024x1408, .f32⟩
  | 111 => ⟨S1024x1408, .f32⟩
  | 112 => ⟨S1x1408x1024, .f32⟩
  | 113 => ⟨S1408x1024, .f32⟩
  | 114 => ⟨S73728x1408, .f32⟩
  | 115 => ⟨S73728x1408, .f32⟩
  | 116 => ⟨S73728x1408, .f32⟩
  | 117 => ⟨S_, .f32⟩
  | 118 => ⟨S73728x1408, .f32⟩
  | 119 => ⟨S73728x1408, .f32⟩
  | 120 => ⟨S_, .f32⟩
  | 121 => ⟨S73728x1408, .f32⟩
  | 122 => ⟨S73728x1408, .f32⟩
  | 123 => ⟨S73728x1408, .f32⟩
  | 124 => ⟨S73728x1408, .f32⟩
  | 125 => ⟨S73728x1408, .f32⟩
  | 126 => ⟨S73728x1024, .f32⟩
  | 127 => ⟨S73728x1024, .f32⟩
  | _ => ⟨S144, .i32⟩

abbrev hbmTy0_1 (i : Nat) : BufTy := match i % 128 with
  | 0 => ⟨S73728x1024, .f32⟩
  | 1 => ⟨S73728x1024, .f32⟩
  | 2 => ⟨S73728x1, .f32⟩
  | 3 => ⟨S1x1024x1408, .f32⟩
  | 4 => ⟨S1024x1408, .f32⟩
  | 5 => ⟨S1x1024x1408, .f32⟩
  | 6 => ⟨S1024x1408, .f32⟩
  | 7 => ⟨S1x1408x1024, .f32⟩
  | 8 => ⟨S1408x1024, .f32⟩
  | 9 => ⟨S73728x1408, .f32⟩
  | 10 => ⟨S73728x1408, .f32⟩
  | 11 => ⟨S73728x1408, .f32⟩
  | 12 => ⟨S_, .f32⟩
  | 13 => ⟨S73728x1408, .f32⟩
  | 14 => ⟨S73728x1408, .f32⟩
  | 15 => ⟨S_, .f32⟩
  | 16 => ⟨S73728x1408, .f32⟩
  | 17 => ⟨S73728x1408, .f32⟩
  | 18 => ⟨S73728x1408, .f32⟩
  | 19 => ⟨S73728x1408, .f32⟩
  | 20 => ⟨S73728x1408, .f32⟩
  | 21 => ⟨S73728x1024, .f32⟩
  | 22 => ⟨S73728x1024, .f32⟩
  | 23 => ⟨S73728x1024, .f32⟩
  | 24 => ⟨S73728x1024, .f32⟩
  | 25 => ⟨S73728x1, .f32⟩
  | 26 => ⟨S1x1024x1408, .f32⟩
  | 27 => ⟨S1024x1408, .f32⟩
  | 28 => ⟨S1x1024x1408, .f32⟩
  | 29 => ⟨S1024x1408, .f32⟩
  | 30 => ⟨S1x1408x1024, .f32⟩
  | 31 => ⟨S1408x1024, .f32⟩
  | 32 => ⟨S73728x1408, .f32⟩
  | 33 => ⟨S73728x1408, .f32⟩
  | 34 => ⟨S73728x1408, .f32⟩
  | 35 => ⟨S_, .f32⟩
  | 36 => ⟨S73728x1408, .f32⟩
  | 37 => ⟨S73728x1408, .f32⟩
  | 38 => ⟨S_, .f32⟩
  | 39 => ⟨S73728x1408, .f32⟩
  | 40 => ⟨S73728x1408, .f32⟩
  | 41 => ⟨S73728x1408, .f32⟩
  | 42 => ⟨S73728x1408, .f32⟩
  | 43 => ⟨S73728x1408, .f32⟩
  | 44 => ⟨S73728x1024, .f32⟩
  | 45 => ⟨S73728x1024, .f32⟩
  | 46 => ⟨S73728x1024, .f32⟩
  | 47 => ⟨S73728x1024, .f32⟩
  | 48 => ⟨S73728x1, .f32⟩
  | 49 => ⟨S1x1024x1408, .f32⟩
  | 50 => ⟨S1024x1408, .f32⟩
  | 51 => ⟨S1x1024x1408, .f32⟩
  | 52 => ⟨S1024x1408, .f32⟩
  | 53 => ⟨S1x1408x1024, .f32⟩
  | 54 => ⟨S1408x1024, .f32⟩
  | 55 => ⟨S73728x1408, .f32⟩
  | 56 => ⟨S73728x1408, .f32⟩
  | 57 => ⟨S73728x1408, .f32⟩
  | 58 => ⟨S_, .f32⟩
  | 59 => ⟨S73728x1408, .f32⟩
  | 60 => ⟨S73728x1408, .f32⟩
  | 61 => ⟨S_, .f32⟩
  | 62 => ⟨S73728x1408, .f32⟩
  | 63 => ⟨S73728x1408, .f32⟩
  | 64 => ⟨S73728x1408, .f32⟩
  | 65 => ⟨S73728x1408, .f32⟩
  | 66 => ⟨S73728x1408, .f32⟩
  | 67 => ⟨S73728x1024, .f32⟩
  | 68 => ⟨S73728x1024, .f32⟩
  | 69 => ⟨S73728x1024, .f32⟩
  | 70 => ⟨S73728x1024, .f32⟩
  | _ => ⟨S144, .i32⟩

abbrev hbmTy (i : Nat) : BufTy := match i / 128 with
  | 0 => hbmTy0_0 i
  | 1 => hbmTy0_1 i
  | _ => ⟨S144, .i32⟩

abbrev bufTy : (tb : Table) → Fin (tcTables nBuf tb) → BufTy
  | .hbm, ⟨i, _⟩ => hbmTy i
  | _, _ => ⟨S144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call2_v0 : Ref sig .tc := ⟨.hbm, 46, rfl⟩
abbrev main_call2_v1 : Ref sig .tc := ⟨.hbm, 47, rfl⟩
abbrev main_call2_cst : Ref sig .tc := ⟨.hbm, 48, rfl⟩
abbrev main_call2_v2 : Ref sig .tc := ⟨.hbm, 49, rfl⟩
abbrev main_call2_v3 : Ref sig .tc := ⟨.hbm, 50, rfl⟩
abbrev main_call2_cst_0 : Ref sig .tc := ⟨.hbm, 51, rfl⟩
abbrev main_call2_v4 : Ref sig .tc := ⟨.hbm, 52, rfl⟩
abbrev main_call2_v5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call3_v0 : Ref sig .tc := ⟨.hbm, 69, rfl⟩
abbrev main_call3_v1 : Ref sig .tc := ⟨.hbm, 70, rfl⟩
abbrev main_call3_cst : Ref sig .tc := ⟨.hbm, 71, rfl⟩
abbrev main_call3_v2 : Ref sig .tc := ⟨.hbm, 72, rfl⟩
abbrev main_call3_v3 : Ref sig .tc := ⟨.hbm, 73, rfl⟩
abbrev main_call3_cst_0 : Ref sig .tc := ⟨.hbm, 74, rfl⟩
abbrev main_call3_v4 : Ref sig .tc := ⟨.hbm, 75, rfl⟩
abbrev main_call3_v5 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_call4_v0 : Ref sig .tc := ⟨.hbm, 92, rfl⟩
abbrev main_call4_v1 : Ref sig .tc := ⟨.hbm, 93, rfl⟩
abbrev main_call4_cst : Ref sig .tc := ⟨.hbm, 94, rfl⟩
abbrev main_call4_v2 : Ref sig .tc := ⟨.hbm, 95, rfl⟩
abbrev main_call4_v3 : Ref sig .tc := ⟨.hbm, 96, rfl⟩
abbrev main_call4_cst_0 : Ref sig .tc := ⟨.hbm, 97, rfl⟩
abbrev main_call4_v4 : Ref sig .tc := ⟨.hbm, 98, rfl⟩
abbrev main_call4_v5 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_call5_v0 : Ref sig .tc := ⟨.hbm, 115, rfl⟩
abbrev main_call5_v1 : Ref sig .tc := ⟨.hbm, 116, rfl⟩
abbrev main_call5_cst : Ref sig .tc := ⟨.hbm, 117, rfl⟩
abbrev main_call5_v2 : Ref sig .tc := ⟨.hbm, 118, rfl⟩
abbrev main_call5_v3 : Ref sig .tc := ⟨.hbm, 119, rfl⟩
abbrev main_call5_cst_0 : Ref sig .tc := ⟨.hbm, 120, rfl⟩
abbrev main_call5_v4 : Ref sig .tc := ⟨.hbm, 121, rfl⟩
abbrev main_call5_v5 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_call6_v0 : Ref sig .tc := ⟨.hbm, 138, rfl⟩
abbrev main_call6_v1 : Ref sig .tc := ⟨.hbm, 139, rfl⟩
abbrev main_call6_cst : Ref sig .tc := ⟨.hbm, 140, rfl⟩
abbrev main_call6_v2 : Ref sig .tc := ⟨.hbm, 141, rfl⟩
abbrev main_call6_v3 : Ref sig .tc := ⟨.hbm, 142, rfl⟩
abbrev main_call6_cst_0 : Ref sig .tc := ⟨.hbm, 143, rfl⟩
abbrev main_call6_v4 : Ref sig .tc := ⟨.hbm, 144, rfl⟩
abbrev main_call6_v5 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_call7_v0 : Ref sig .tc := ⟨.hbm, 161, rfl⟩
abbrev main_call7_v1 : Ref sig .tc := ⟨.hbm, 162, rfl⟩
abbrev main_call7_cst : Ref sig .tc := ⟨.hbm, 163, rfl⟩
abbrev main_call7_v2 : Ref sig .tc := ⟨.hbm, 164, rfl⟩
abbrev main_call7_v3 : Ref sig .tc := ⟨.hbm, 165, rfl⟩
abbrev main_call7_cst_0 : Ref sig .tc := ⟨.hbm, 166, rfl⟩
abbrev main_call7_v4 : Ref sig .tc := ⟨.hbm, 167, rfl⟩
abbrev main_call7_v5 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_call8_v0 : Ref sig .tc := ⟨.hbm, 184, rfl⟩
abbrev main_call8_v1 : Ref sig .tc := ⟨.hbm, 185, rfl⟩
abbrev main_call8_cst : Ref sig .tc := ⟨.hbm, 186, rfl⟩
abbrev main_call8_v2 : Ref sig .tc := ⟨.hbm, 187, rfl⟩
abbrev main_call8_v3 : Ref sig .tc := ⟨.hbm, 188, rfl⟩
abbrev main_call8_cst_0 : Ref sig .tc := ⟨.hbm, 189, rfl⟩
abbrev main_call8_v4 : Ref sig .tc := ⟨.hbm, 190, rfl⟩
abbrev main_call8_v5 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩

abbrev nD : Nat := 1
abbrev τ : Topo := Topo.v7x

variable {F : FTy → Type} [FloatOps F]
-- ==== Ffn.lean ====
abbrev S8x4096x1024 : Shape := ⟨3, ![8, 4096, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x2816 : Shape := ⟨2, ![1024, 2816]⟩
abbrev S2816x1024 : Shape := ⟨2, ![2816, 1024]⟩
abbrev S8x4352x1024 : Shape := ⟨3, ![8, 4352, 1024]⟩
abbrev S1x6144 : Shape := ⟨2, ![1, 6144]⟩
abbrev S_ : Shape := ⟨0, ![]⟩
abbrev S7x6144 : Shape := ⟨2, ![7, 6144]⟩
abbrev S16x6144 : Shape := ⟨2, ![16, 6144]⟩
abbrev S16x6x1024 : Shape := ⟨3, ![16, 6, 1024]⟩
abbrev S6x16x1024 : Shape := ⟨3, ![6, 16, 1024]⟩
abbrev S96x1x1024 : Shape := ⟨3, ![96, 1, 1024]⟩
abbrev S1x1024 : Shape := ⟨2, ![1, 1024]⟩
abbrev S34816x1024 : Shape := ⟨2, ![34816, 1024]⟩
abbrev S512x1024 : Shape := ⟨2, ![512, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S512x2816 : Shape := ⟨2, ![512, 2816]⟩

abbrev nBuf : Space → Nat
  | .hbm => 24
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S8x4352x1024, .f32⟩
  | .hbm, ⟨10, _⟩ => ⟨S1x6144, .f32⟩
  | .hbm, ⟨11, _⟩ => ⟨S_, .f32⟩
  | .hbm, ⟨12, _⟩ => ⟨S7x6144, .f32⟩
  | .hbm, ⟨13, _⟩ => ⟨S16x6144, .f32⟩
  | .hbm, ⟨14, _⟩ => ⟨S16x6x1024, .f32⟩
  | .hbm, ⟨15, _⟩ => ⟨S6x16x1024, .f32⟩
  | .hbm, ⟨16, _⟩ => ⟨S96x1x1024, .f32⟩
  | .hbm, ⟨17, _⟩ => ⟨S1x1024, .f32⟩
  | .hbm, ⟨18, _⟩ => ⟨S1x1024, .f32⟩
  | .hbm, ⟨19, _⟩ => ⟨S1024x2816, .bf16⟩
  | .hbm, ⟨20, _⟩ => ⟨S1024x2816, .bf16⟩
  | .hbm, ⟨21, _⟩ => ⟨S2816x1024, .bf16⟩
  | .hbm, ⟨22, _⟩ => ⟨S34816x1024, .f32⟩
  | .hbm, ⟨23, _⟩ => ⟨S34816x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S1024x2816, .bf16⟩
  | .local _ .vmem, ⟨17, _⟩ => ⟨S1024x2816, .bf16⟩
  | .local _ .vmem, ⟨18, _⟩ => ⟨S2816x1024, .bf16⟩
  | .local _ .vmem, ⟨19, _⟩ => ⟨S512x1024, .f32⟩
  | .local _ .vmem, ⟨20, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c17_i32 : BitVec 32 := 17#32
  let c0_i32_0 : BitVec 32 := 0#32
  let v2 : BitVec 1 := Scalar.cmpi .eq c17_i32 c0_i32_0
  let c1_i32 : BitVec 32 := 1#32
  let v3 : BitVec 32 := Scalar.select v2 c1_i32 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c17_i32_5 : BitVec 32 := 17#32
  let v13 : BitVec 32 := Scalar.divsi v1 c17_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c17_i32_5 c0_i32_8
  let v20 : BitVec 32 := Scalar.extui v19
  let c0_i32_9 : BitVec 32 := 0#32
  let v21 : BitVec 1 := Scalar.cmpi .slt c17_i32_5 c0_i32_9
  let v22 : BitVec 32 := Scalar.extui v21
  let v23 : BitVec 32 := Scalar.subi v20 v22
  let v24 : BitVec 1 := Scalar.cmpi .ne v18 v23
  let v25 : BitVec 32 := Scalar.remsi v1 c17_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c8_i32 : BitVec 32 := 8#32
  let v30 : BitVec 32 := Scalar.select v12 c8_i32 v29
  let c48_i32 : BitVec 32 := 48#32
  let v31 : BitVec 32 := Scalar.addi c48_i32 v30
  let c0_i32_12 : BitVec 32 := 0#32
  let c0_i32_13 : BitVec 32 := 0#32
  let c0_i32_14 : BitVec 32 := 0#32
  ![v31.toNat, c0_i32_12.toNat, c0_i32_13.toNat]

def cc0_transform_2 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c17_i32 : BitVec 32 := 17#32
  let c0_i32_0 : BitVec 32 := 0#32
  let v2 : BitVec 1 := Scalar.cmpi .eq c17_i32 c0_i32_0
  let c1_i32 : BitVec 32 := 1#32
  let v3 : BitVec 32 := Scalar.select v2 c1_i32 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c17_i32_5 : BitVec 32 := 17#32
  let v13 : BitVec 32 := Scalar.divsi v1 c17_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c17_i32_5 c0_i32_8
  let v20 : BitVec 32 := Scalar.extui v19
  let c0_i32_9 : BitVec 32 := 0#32
  let v21 : BitVec 1 := Scalar.cmpi .slt c17_i32_5 c0_i32_9
  let v22 : BitVec 32 := Scalar.extui v21
  let v23 : BitVec 32 := Scalar.subi v20 v22
  let v24 : BitVec 1 := Scalar.cmpi .ne v18 v23
  let v25 : BitVec 32 := Scalar.remsi v1 c17_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c8_i32 : BitVec 32 := 8#32
  let v30 : BitVec 32 := Scalar.select v12 c8_i32 v29
  let c64_i32 : BitVec 32 := 64#32
  let v31 : BitVec 32 := Scalar.addi c64_i32 v30
  let c0_i32_12 : BitVec 32 := 0#32
  let c0_i32_13 : BitVec 32 := 0#32
  let c0_i32_14 : BitVec 32 := 0#32
  ![v31.toNat, c0_i32_12.toNat, c0_i32_13.toNat]

def cc0_transform_3 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c17_i32 : BitVec 32 := 17#32
  let c0_i32_0 : BitVec 32 := 0#32
  let v2 : BitVec 1 := Scalar.cmpi .eq c17_i32 c0_i32_0
  let c1_i32 : BitVec 32 := 1#32
  let v3 : BitVec 32 := Scalar.select v2 c1_i32 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c17_i32_5 : BitVec 32 := 17#32
  let v13 : BitVec 32 := Scalar.divsi v1 c17_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c17_i32_5 c0_i32_8
  let v20 : BitVec 32 := Scalar.extui v19
  let c0_i32_9 : BitVec 32 := 0#32
  let v21 : BitVec 1 := Scalar.cmpi .slt c17_i32_5 c0_i32_9
  let v22 : BitVec 32 := Scalar.extui v21
  let v23 : BitVec 32 := Scalar.subi v20 v22
  let v24 : BitVec 1 := Scalar.cmpi .ne v18 v23
  let v25 : BitVec 32 := Scalar.remsi v1 c17_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c8_i32 : BitVec 32 := 8#32
  let v30 : BitVec 32 := Scalar.select v12 c8_i32 v29
  let c80_i32 : BitVec 32 := 80#32
  let v31 : BitVec 32 := Scalar.addi c80_i32 v30
  let c0_i32_12 : BitVec 32 := 0#32
  let c0_i32_13 : BitVec 32 := 0#32
  let c0_i32_14 : BitVec 32 := 0#32
  ![v31.toNat, c0_i32_12.toNat, c0_i32_13.toNat]

def cc0_transform_4 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c17_i32 : BitVec 32 := 17#32
  let c0_i32 : BitVec 32 := 0#32
  let v2 : BitVec 1 := Scalar.cmpi .eq c17_i32 c0_i32
  let c1_i32_0 : BitVec 32 := 1#32
  let v3 : BitVec 32 := Scalar.select v2 c1_i32_0 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c17_i32_5 : BitVec 32 := 17#32
  let v13 : BitVec 32 := Scalar.divsi v1 c17_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c17_i32_5 c0_i32_8
  let v20 : BitVec 32 := Scalar.extui v19
  let c0_i32_9 : BitVec 32 := 0#32
  let v21 : BitVec 1 := Scalar.cmpi .slt c17_i32_5 c0_i32_9
  let v22 : BitVec 32 := Scalar.extui v21
  let v23 : BitVec 32 := Scalar.subi v20 v22
  let v24 : BitVec 1 := Scalar.cmpi .ne v18 v23
  let v25 : BitVec 32 := Scalar.remsi v1 c17_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c8_i32 : BitVec 32 := 8#32
  let v30 : BitVec 32 := Scalar.select v12 c8_i32 v29
  let c48_i32 : BitVec 32 := 48#32
  let v31 : BitVec 32 := Scalar.addi c48_i32 v30
  let c0_i32_12 : BitVec 32 := 0#32
  let c0_i32_13 : BitVec 32 := 0#32
  let c0_i32_14 : BitVec 32 := 0#32
  ![v31.toNat, c0_i32_12.toNat, c0_i32_13.toNat]

def cc0_transform_5 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c17_i32 : BitVec 32 := 17#32
  let c0_i32 : BitVec 32 := 0#32
  let v2 : BitVec 1 := Scalar.cmpi .eq c17_i32 c0_i32
  let c1_i32_0 : BitVec 32 := 1#32
  let v3 : BitVec 32 := Scalar.select v2 c1_i32_0 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c17_i32_5 : BitVec 32 := 17#32
  let v13 : BitVec 32 := Scalar.divsi v1 c17_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c17_i32_5 c0_i32_8
  let v20 : BitVec 32 := Scalar.extui v19
  let c0_i32_9 : BitVec 32 := 0#32
  let v21 : BitVec 1 := Scalar.cmpi .slt c17_i32_5 c0_i32_9
  let v22 : BitVec 32 := Scalar.extui v21
  let v23 : BitVec 32 := Scalar.subi v20 v22
  let v24 : BitVec 1 := Scalar.cmpi .ne v18 v23
  let v25 : BitVec 32 := Scalar.remsi v1 c17_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c8_i32 : BitVec 32 := 8#32
  let v30 : BitVec 32 := Scalar.select v12 c8_i32 v29
  let c64_i32 : BitVec 32 := 64#32
  let v31 : BitVec 32 := Scalar.addi c64_i32 v30
  let c0_i32_12 : BitVec 32 := 0#32
  let c0_i32_13 : BitVec 32 := 0#32
  let c0_i32_14 : BitVec 32 := 0#32
  ![v31.toNat, c0_i32_12.toNat, c0_i32_13.toNat]

def cc0_transform_6 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c17_i32 : BitVec 32 := 17#32
  let c0_i32 : BitVec 32 := 0#32
  let v2 : BitVec 1 := Scalar.cmpi .eq c17_i32 c0_i32
  let c1_i32_0 : BitVec 32 := 1#32
  let v3 : BitVec 32 := Scalar.select v2 c1_i32_0 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c17_i32_5 : BitVec 32 := 17#32
  let v13 : BitVec 32 := Scalar.divsi v1 c17_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c17_i32_5 c0_i32_8
  let v20 : BitVec 32 := Scalar.extui v19
  let c0_i32_9 : BitVec 32 := 0#32
  let v21 : BitVec 1 := Scalar.cmpi .slt c17_i32_5 c0_i32_9
  let v22 : BitVec 32 := Scalar.extui v21
  let v23 : BitVec 32 := Scalar.subi v20 v22
  let v24 : BitVec 1 := Scalar.cmpi .ne v18 v23
  let v25 : BitVec 32 := Scalar.remsi v1 c17_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c8_i32 : BitVec 32 := 8#32
  let v30 : BitVec 32 := Scalar.select v12 c8_i32 v29
  let c80_i32 : BitVec 32 := 80#32
  let v31 : BitVec 32 := Scalar.addi c80_i32 v30
  let c0_i32_12 : BitVec 32 := 0#32
  let c0_i32_13 : BitVec 32 := 0#32
  let c0_i32_14 : BitVec 32 := 0#32
  ![v31.toNat, c0_i32_12.toNat, c0_i32_13.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FfnRefIdeal.lean ====
abbrev S8x4096x1024 : Shape := ⟨3, ![8, 4096, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x2816 : Shape := ⟨2, ![1024, 2816]⟩
abbrev S2816x1024 : Shape := ⟨2, ![2816, 1024]⟩
abbrev S8x1x6144 : Shape := ⟨3, ![8, 1, 6144]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S8x256 : Shape := ⟨2, ![8, 256]⟩
abbrev S8x256x1 : Shape := ⟨3, ![8, 256, 1]⟩
abbrev S8x256x2816 : Shape := ⟨3, ![8, 256, 2816]⟩
abbrev S8x4352x1024 : Shape := ⟨3, ![8, 4352, 1024]⟩
abbrev S34816x1024 : Shape := ⟨2, ![34816, 1024]⟩

abbrev nBuf : Space → Nat
  | .hbm => 137
  | .vmem => 0
  | .smem => 0
  | _ => 0

abbrev hbmTy0_0 (i : Nat) : BufTy := match i % 128 with
  | 0 => ⟨S8x4096x1024, .f32⟩
  | 1 => ⟨S8x256x1024, .f32⟩
  | 2 => ⟨S8x6144, .f32⟩
  | 3 => ⟨S6144, .f32⟩
  | 4 => ⟨S1024, .f32⟩
  | 5 => ⟨S1024, .f32⟩
  | 6 => ⟨S1024x2816, .f32⟩
  | 7 => ⟨S1024x2816, .f32⟩
  | 8 => ⟨S2816x1024, .f32⟩
  | 9 => ⟨S8x1x6144, .f32⟩
  | 10 => ⟨S8x1x1024, .f32⟩
  | 11 => ⟨S8x1x1024, .f32⟩
  | 12 => ⟨S8x1x1024, .f32⟩
  | 13 => ⟨S8x1x1024, .f32⟩
  | 14 => ⟨S8x1x1024, .f32⟩
  | 15 => ⟨S8x1x1024, .f32⟩
  | 16 => ⟨S1024, .f32⟩
  | 17 => ⟨S1024, .f32⟩
  | 18 => ⟨S1024, .f32⟩
  | 19 => ⟨S1024, .f32⟩
  | 20 => ⟨S1024, .f32⟩
  | 21 => ⟨S1024, .f32⟩
  | 22 => ⟨S8x4096x1024, .f32⟩
  | 23 => ⟨S_, .f32⟩
  | 24 => ⟨S8x4096, .f32⟩
  | 25 => ⟨S8x4096x1, .f32⟩
  | 26 => ⟨S_, .f32⟩
  | 27 => ⟨S8x4096x1, .f32⟩
  | 28 => ⟨S8x4096x1, .f32⟩
  | 29 => ⟨S_, .f32⟩
  | 30 => ⟨S8x4096x1, .f32⟩
  | 31 => ⟨S8x4096x1, .f32⟩
  | 32 => ⟨S8x4096x1, .f32⟩
  | 33 => ⟨S8x4096x1024, .f32⟩
  | 34 => ⟨S8x4096x1024, .f32⟩
  | 35 => ⟨S1x1x1024, .f32⟩
  | 36 => ⟨S8x4096x1024, .f32⟩
  | 37 => ⟨S8x4096x1024, .f32⟩
  | 38 => ⟨S_, .f32⟩
  | 39 => ⟨S8x1x1024, .f32⟩
  | 40 => ⟨S8x1x1024, .f32⟩
  | 41 => ⟨S8x4096x1024, .f32⟩
  | 42 => ⟨S8x4096x1024, .f32⟩
  | 43 => ⟨S8x4096x1024, .f32⟩
  | 44 => ⟨S8x4096x1024, .f32⟩
  | 45 => ⟨S8x4096x2816, .f32⟩
  | 46 => ⟨S8x4096x2816, .f32⟩
  | 47 => ⟨S8x4096x2816, .f32⟩
  | 48 => ⟨S_, .f32⟩
  | 49 => ⟨S8x4096x2816, .f32⟩
  | 50 => ⟨S8x4096x2816, .f32⟩
  | 51 => ⟨S_, .f32⟩
  | 52 => ⟨S8x4096x2816, .f32⟩
  | 53 => ⟨S8x4096x2816, .f32⟩
  | 54 => ⟨S8x4096x2816, .f32⟩
  | 55 => ⟨S8x4096x2816, .f32⟩
  | 56 => ⟨S8x4096x2816, .f32⟩
  | 57 => ⟨S8x4096x1024, .f32⟩
  | 58 => ⟨S8x4096x1024, .f32⟩
  | 59 => ⟨S_, .f32⟩
  | 60 => ⟨S8x4096, .f32⟩
  | 61 => ⟨S8x4096x1, .f32⟩
  | 62 => ⟨S_, .f32⟩
  | 63 => ⟨S8x4096x1, .f32⟩
  | 64 => ⟨S8x4096x1, .f32⟩
  | 65 => ⟨S_, .f32⟩
  | 66 => ⟨S8x4096x1, .f32⟩
  | 67 => ⟨S8x4096x1, .f32⟩
  | 68 => ⟨S8x4096x1, .f32⟩
  | 69 => ⟨S8x4096x1024, .f32⟩
  | 70 => ⟨S8x4096x1024, .f32⟩
  | 71 => ⟨S1x1x1024, .f32⟩
  | 72 => ⟨S8x4096x1024, .f32⟩
  | 73 => ⟨S8x4096x1024, .f32⟩
  | 74 => ⟨S8x4096x1024, .f32⟩
  | 75 => ⟨S8x4096x1024, .f32⟩
  | 76 => ⟨S8x4096x1024, .f32⟩
  | 77 => ⟨S8x256x1024, .f32⟩
  | 78 => ⟨S_, .f32⟩
  | 79 => ⟨S8x256, .f32⟩
  | 80 => ⟨S8x256x1, .f32⟩
  | 81 => ⟨S_, .f32⟩
  | 82 => ⟨S8x256x1, .f32⟩
  | 83 => ⟨S8x256x1, .f32⟩
  | 84 => ⟨S_, .f32⟩
  | 85 => ⟨S8x256x1, .f32⟩
  | 86 => ⟨S8x256x1, .f32⟩
  | 87 => ⟨S8x256x1, .f32⟩
  | 88 => ⟨S8x256x1024, .f32⟩
  | 89 => ⟨S8x256x1024, .f32⟩
  | 90 => ⟨S1x1x1024, .f32⟩
  | 91 => ⟨S8x256x1024, .f32⟩
  | 92 => ⟨S8x256x1024, .f32⟩
  | 93 => ⟨S_, .f32⟩
  | 94 => ⟨S1024, .f32⟩
  | 95 => ⟨S1024, .f32⟩
  | 96 => ⟨S1x1x1024, .f32⟩
  | 97 => ⟨S8x256x1024, .f32⟩
  | 98 => ⟨S8x256x1024, .f32⟩
  | 99 => ⟨S1x1x1024, .f32⟩
  | 100 => ⟨S8x256x1024, .f32⟩
  | 101 => ⟨S8x256x1024, .f32⟩
  | 102 => ⟨S8x256x2816, .f32⟩
  | 103 => ⟨S8x256x2816, .f32⟩
  | 104 => ⟨S8x256x2816, .f32⟩
  | 105 => ⟨S_, .f32⟩
  | 106 => ⟨S8x256x2816, .f32⟩
  | 107 => ⟨S8x256x2816, .f32⟩
  | 108 => ⟨S_, .f32⟩
  | 109 => ⟨S8x256x2816, .f32⟩
  | 110 => ⟨S8x256x2816, .f32⟩
  | 111 => ⟨S8x256x2816, .f32⟩
  | 112 => ⟨S8x256x2816, .f32⟩
  | 113 => ⟨S8x256x2816, .f32⟩
  | 114 => ⟨S8x256x1024, .f32⟩
  | 115 => ⟨S8x256x1024, .f32⟩
  | 116 => ⟨S_, .f32⟩
  | 117 => ⟨S8x256, .f32⟩
  | 118 => ⟨S8x256x1, .f32⟩
  | 119 => ⟨S_, .f32⟩
  | 120 => ⟨S8x256x1, .f32⟩
  | 121 => ⟨S8x256x1, .f32⟩
  | 122 => ⟨S_, .f32⟩
  | 123 => ⟨S8x256x1, .f32⟩
  | 124 => ⟨S8x256x1, .f32⟩
  | 125 => ⟨S8x256x1, .f32⟩
  | 126 => ⟨S8x256x1024, .f32⟩
  | 127 => ⟨S8x256x1024, .f32⟩
  | _ => ⟨S8x4096x1024, .f32⟩

abbrev hbmTy0_1 (i : Nat) : BufTy := match i % 128 with
  | 0 => ⟨S1x1x1024, .f32⟩
  | 1 => ⟨S8x256x1024, .f32⟩
  | 2 => ⟨S8x256x1024, .f32⟩
  | 3 => ⟨S1x1x1024, .f32⟩
  | 4 => ⟨S8x256x1024, .f32⟩
  | 5 => ⟨S8x256x1024, .f32⟩
  | 6 => ⟨S8x256x1024, .f32⟩
  | 7 => ⟨S8x4352x1024, .f32⟩
  | 8 => ⟨S34816x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_3 : Ref sig .tc := ⟨.hbm, 59, rfl⟩
abbrev main_v38 : Ref sig .tc := ⟨.hbm, 60, rfl⟩
abbrev main_v39 : Ref sig .tc := ⟨.hbm, 61, rfl⟩
abbrev main_cst_4 : Ref sig .tc := ⟨.hbm, 62, rfl⟩
abbrev main_v40 : Ref sig .tc := ⟨.hbm, 63, rfl⟩
abbrev main_v41 : Ref sig .tc := ⟨.hbm, 64, rfl⟩
abbrev main_cst_5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_6 : Ref sig .tc := ⟨.hbm, 78, rfl⟩
abbrev main_v54 : Ref sig .tc := ⟨.hbm, 79, rfl⟩
abbrev main_v55 : Ref sig .tc := ⟨.hbm, 80, rfl⟩
abbrev main_cst_7 : Ref sig .tc := ⟨.hbm, 81, rfl⟩
abbrev main_v56 : Ref sig .tc := ⟨.hbm, 82, rfl⟩
abbrev main_v57 : Ref sig .tc := ⟨.hbm, 83, rfl⟩
abbrev main_cst_8 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_9 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call1_v0 : Ref sig .tc := ⟨.hbm, 103, rfl⟩
abbrev main_call1_v1 : Ref sig .tc := ⟨.hbm, 104, rfl⟩
abbrev main_call1_cst : Ref sig .tc := ⟨.hbm, 105, rfl⟩
abbrev main_call1_v2 : Ref sig .tc := ⟨.hbm, 106, rfl⟩
abbrev main_call1_v3 : Ref sig .tc := ⟨.hbm, 107, rfl⟩
abbrev main_call1_cst_0 : Ref sig .tc := ⟨.hbm, 108, rfl⟩
abbrev main_call1_v4 : Ref sig .tc := ⟨.hbm, 109, rfl⟩
abbrev main_call1_v5 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_10 : Ref sig .tc := ⟨.hbm, 116, rfl⟩
abbrev main_v80 : Ref sig .tc := ⟨.hbm, 117, rfl⟩
abbrev main_v81 : Ref sig .tc := ⟨.hbm, 118, rfl⟩
abbrev main_cst_11 : Ref sig .tc := ⟨.hbm, 119, rfl⟩
abbrev main_v82 : Ref sig .tc := ⟨.hbm, 120, rfl⟩
abbrev main_v83 : Ref sig .tc := ⟨.hbm, 121, rfl⟩
abbrev main_cst_12 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩

abbrev nD : Nat := 1
abbrev τ : Topo := Topo.v7x

variable {F : FTy → Type} [FloatOps F]
-- ==== Proof.ExpertsIdeal.Points.lean ====
/- Hand-written, untrusted: the experts' call at a grid point: where its windows are fetched and written back, and its body. -/
module

public import proofs.«01_k».proof.Proof.Gen.ExpertsIdeal
public import Idealize.ShloMosaic.Lib.Pipeline.Kit

@[expose] public section

noncomputable section

namespace Cert.ExpertsIdeal.Hand

open Cert.ExpertsIdeal.Gen Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
-- window 1: no schedule fact — its index map reads a prefetched table, so where it is fetched or written back depends on the tables' contents
-- window 2: no schedule fact — its index map reads a prefetched table, so where it is fetched or written back depends on the tables' contents
-- window 3: no schedule fact — its index map reads a prefetched table, so where it is fetched or written back depends on the tables' contents
/-- Window 4 (result 0 (%3)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_experts (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

end Cert.ExpertsIdeal.Hand

end
-- ==== Proof.ExpertsIdeal.Runs.lean ====
/- Hand-written, untrusted: what the two runs of the experts' body share: the arrays when the call is entered, the table, the windows' blocks. -/
module

public import proofs.«01_k».proof.Proof.Gen.ExpertsIdeal.Launch
public import proofs.«01_k».proof.Proof.Gen.ExpertsIdeal.Skeleton
public import proofs.«01_k».proof.Proof.ExpertsIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.ExpertsIdeal.Hand

open Cert.ExpertsIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S144 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ExpertsIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The kernel body on any staging memrefs: a subtype the run finds -/

/-- One staging buffer of output window 4, through which its contents are stated (the choice
    does not matter). -/
abbrev VO0_4 : View sig .tc .vmem S512x1024 .f32 := (Memref.whole cc0_stg4_0 : Memref sig .tc .vmem S512x1024 .f32).view
/-- Each window's current staging memref at point `t`, spelled as the pipeline passes it (`bodyAt0`), and its wholeness. -/
abbrev ms0_0 (hO : Ok m) (t : Fin (cfgM m hO).N) : Memref sig .tc .vmem S512x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x1408 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x1408 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1408x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .f32 := spec0_4.stage ((cfgM m hO).slots t 4)
abbrev hs0_4 (hO : Ok m) (t : Fin (cfgM m hO).N) : (ms0_4 m hO t).IsWhole := hstage0_4 (((cfgM m hO).slots t 4).cast nbuf0_4)

end Cert.ExpertsIdeal.Hand

end
-- ==== Proof.ExpertsIdeal.Run.lean ====
/- Hand-written, untrusted: the run of the experts' body: a tile with an expert leaves its rows through the expert's gated unit, any other zeros. -/
module

public import proofs.«01_k».proof.Proof.ExpertsIdeal.Runs
public import Idealize.ShloMosaic.Lib.Pipeline.Value

@[expose] public section

-- membership in a rectangle of production extents (`View.cover_of_tiled`): the elaborator's structural look
-- recurses once per coordinate of the long axes
set_option maxRecDepth 16384

noncomputable section

namespace Cert.ExpertsIdeal.Hand

open Cert.ExpertsIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The table's word at a grid point. -/
def word (c : Dev nD) (i : grid0.Coords) (xt0 : TbBuf0 (F := F) c tbM0_0) : BitVec 32 :=
  View.readAt (Elt F) tbM0_0.view (Rect.unit (s := S144) (k0_off1 i) S1.size (k0_off1_inb i)).toLoadRect xt0 (Shape.Idx.first (by rw [show (Rect.unit (s := S144) (k0_off1 i) S1.size (k0_off1_inb i)).shape.numel = 1 from numel1_S1]; exact Nat.one_pos))

/-- The second branch is taken exactly where the first is not. -/
theorem cond_flip (w : BitVec 32) : k0_cond2 w = 1#1 ↔ ¬ k0_cond1 w = 1#1 := by
  have h : ∀ b : Bool, (IntOp.cmpi .ne ((IntOp.xori (BitVec.ofBool b) 1#1).setWidth 32) 0#32 = 1#1)
      ↔ ¬ (IntOp.cmpi .ne ((BitVec.ofBool b).setWidth 32) 0#32 = 1#1) := by decide
  exact h (BitVec.slt w 8#32)

/-- The first branch is taken where the word is below the number of experts. -/
theorem cond1_iff (w : BitVec 32) : k0_cond1 w = 1#1 ↔ BitVec.slt w 8#32 = true := by
  have h : ∀ b : Bool, (IntOp.cmpi .ne ((BitVec.ofBool b).setWidth 32) 0#32 = 1#1) ↔ b = true := by decide
  exact h (BitVec.slt w 8#32)

/-- What the body leaves. -/
def left (w : BitVec 32) (x0 : Vec F S512x1024 .f32) (x1 : Vec F S1x1024x1408 .bf16) (x2 : Vec F S1x1024x1408 .bf16) (x3 : Vec F S1x1408x1024 .bf16) :
    Vec F S512x1024 .f32 :=
  if k0_cond1 w = 1#1 then k0_pay1 x0 x1 x2 x3 else k0_pay2

/-- A whole block stored and read back. -/
theorem read_store (arg6 : Memref sig .tc .vmem S512x1024 .f32) (f : arg6.view.ty.Contents (Elt F)) (v : Vec F S512x1024 .f32) :
    View.read (Elt F) arg6.view (arg6.view.writes (Elt F) f [⟨Rect.unit ![0, 0] S512x1024.size inb_S512x1024_S512x1024_0_0, v⟩]) = v :=
  (View.read_writes_eq_canon _ _ _ (fun y => ⟨_, List.mem_singleton_self _, View.mem_set_unit_zero (by decide) inb_S512x1024_S512x1024_0_0 y⟩)).trans
    (View.canon_unit_zero (by decide) _ v)

/-- A whole block loaded. -/
theorem load_whole {S : Shape} {e : EltTy} (a : Memref sig .tc .vmem S e) (h : a.IsWhole) (x : S.Idx → Elt F e) {off : Fin S.rank → Nat} (hz : off = fun _ => 0)
    (inb : ∀ z, off z + S.size z ≤ S.size z) : View.readAt (Elt F) a.view (Rect.unit off S.size inb).toLoadRect (h.unread x) = x := by
  refine Eq.trans ?_ (View.ld_unit_zero hz inb x)
  refine Eq.trans ?_ (congrArg (fun z => View.ld z (Rect.unit off S.size inb)) (h.read_unread x))
  rfl

/-- The output block's buffer after the body. -/
def stored (w : BitVec 32) (arg6 : Memref sig .tc .vmem S512x1024 .f32) (f4 : arg6.view.ty.Contents (Elt F)) (x0 : Vec F S512x1024 .f32)
    (x1 : Vec F S1x1024x1408 .bf16) (x2 : Vec F S1x1024x1408 .bf16) (x3 : Vec F S1x1408x1024 .bf16) : arg6.view.ty.Contents (Elt F) :=
  if _hc : k0_cond2 w = 1#1 then
    arg6.view.writes (Elt F) (if _hc : k0_cond1 w = 1#1 then
      arg6.view.writes (Elt F) f4 [⟨Rect.unit ![0, 0] S512x1024.size inb_S512x1024_S512x1024_0_0, k0_pay1 x0 x1 x2 x3⟩] else f4)
      [⟨Rect.unit ![0, 0] S512x1024.size inb_S512x1024_S512x1024_0_0, k0_pay2⟩]
  else if _hc : k0_cond1 w = 1#1 then
    arg6.view.writes (Elt F) f4 [⟨Rect.unit ![0, 0] S512x1024.size inb_S512x1024_S512x1024_0_0, k0_pay1 x0 x1 x2 x3⟩] else f4

/-- It reads back as `left`. -/
theorem read_stored (w : BitVec 32) (arg6 : Memref sig .tc .vmem S512x1024 .f32) (f4 : arg6.view.ty.Contents (Elt F)) (x0 : Vec F S512x1024 .f32)
    (x1 : Vec F S1x1024x1408 .bf16) (x2 : Vec F S1x1024x1408 .bf16) (x3 : Vec F S1x1408x1024 .bf16) :
    View.read (Elt F) arg6.view (stored w arg6 f4 x0 x1 x2 x3) = left w x0 x1 x2 x3 := by
  unfold left stored
  by_cases h : k0_cond1 w = 1#1
  · rw [dif_neg (fun h2 => (cond_flip _).mp h2 h), if_pos h, dif_pos h]
    exact read_store arg6 _ _
  · rw [dif_pos ((cond_flip _).mpr h), if_neg h]
    exact read_store arg6 _ _

set_option maxHeartbeats 1000000 in
/-- On whole staging memrefs, the inputs' at their contents and the output's at anything, the body runs to the continuation holding
    the inputs' as they were and the output's at `left`. -/
theorem kernelRun (c : Dev nD) (i : grid0.Coords) (arg2 : Memref sig .tc .vmem S512x1024 .f32) (harg2 : arg2.IsWhole) (arg3 : Memref sig .tc .vmem S1x1024x1408 .bf16) (harg3 : arg3.IsWhole) (arg4 : Memref sig .tc .vmem S1x1024x1408 .bf16) (harg4 : arg4.IsWhole) (arg5 : Memref sig .tc .vmem S1x1408x1024 .bf16) (harg5 : arg5.IsWhole) (arg6 : Memref sig .tc .vmem S512x1024 .f32) (harg6 : arg6.IsWhole)
    (x0 : Vec F S512x1024 .f32) (x1 : Vec F S1x1024x1408 .bf16) (x2 : Vec F S1x1024x1408 .bf16) (x3 : Vec F S1x1408x1024 .bf16) (xt0 : TbBuf0 (F := F) c tbM0_0) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ tbPt0 c tbM0_0 xt0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (left (word c i xt0) x0 x1 x2 x3) ∗ tbPt0 c tbM0_0 xt0) -∗ K ⟨⟩))
      ⊢ wp frame (wpE (defs₀ (F := F)) Variants.none c none) E (cc0_experts i tbM0_0 htbM0_0 arg2 harg2 arg3 harg3 arg4 harg4 arg5 harg5 arg6 harg6) K := by
  simp only [cc0_experts_eq_skeleton]; unfold cc0_experts_skel
  unfold owns
  iintro ⟨⟨%f0, %hf0, H0⟩, ⟨%f1, %hf1, H1⟩, ⟨%f2, %hf2, H2⟩, ⟨%f3, %hf3, H3⟩, ⟨%d4, %f4, -, H4⟩, HT0, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists (stored (word c i xt0) arg6 f4
      (View.readAt (Elt F) arg2.view (Rect.unit ![0, 0] S512x1024.size inb_S512x1024_S512x1024_0_0).toLoadRect (harg2.unread x0))
      (View.readAt (Elt F) arg3.view (Rect.unit ![0, 0, 0] S1x1024x1408.size inb_S1x1024x1408_S1x1024x1408_0_0_0).toLoadRect (harg3.unread x1))
      (View.readAt (Elt F) arg4.view (Rect.unit ![0, 0, 0] S1x1024x1408.size inb_S1x1024x1408_S1x1024x1408_0_0_0).toLoadRect (harg4.unread x2))
      (View.readAt (Elt F) arg5.view (Rect.unit ![0, 0, 0] S1x1408x1024.size inb_S1x1408x1024_S1x1408x1024_0_0_0).toLoadRect (harg5.unread x3)))
    isplitr
    · ipureintro
      rw [load_whole arg2 harg2 x0 (by decide), load_whole arg3 harg3 x1 (by decide), load_whole arg4 harg4 x2 (by decide), load_whole arg5 harg5 x3 (by decide)]
      exact read_stored _ _ _ _ _ _ _
    iexact H4
  iexact HT0

end Cert.ExpertsIdeal.Hand

end
-- ==== Proof.ExpertsIdeal.Frame.lean ====
/- Hand-written, untrusted: the frame of the experts' call, for every contents of its table under which each block lies in its array. -/
module

public import proofs.«01_k».proof.Proof.ExpertsIdeal.Run
public import Idealize.ShloMosaic.Lib.Claim

@[expose] public section

-- membership in a rectangle of production extents (`View.cover_of_tiled`): the elaborator's structural look
-- recurses once per coordinate of the long axes
set_option maxRecDepth 16384

noncomputable section

namespace Cert.ExpertsIdeal.Hand

open Cert.ExpertsIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the outputs hold after each point -/

/-- What the outputs' staging buffers hold after the body at point `t`: the body's result (`left`) at
    the table's word and the input blocks. -/
def outsAt0 (hO : Ok m) (c : Dev nD) (t : Fin (cfgM m hO).N) : Vec F S512x1024 .f32 :=
  left (word c (grid0.coords t) (tbl m 0)) (iblk m hO c 0 t) (iblk m hO c 1 t) (iblk m hO c 2 t) (iblk m hO c 3 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  unfold outsAt0
  iintro ⟨⟨HΦ, HT0⟩, Ho, ⟨%d0, H0⟩, ⟨%d1, H1⟩, ⟨%d2, H2⟩, ⟨%d3, H3⟩, ⟨%d4, H4⟩⟩
  iapply (kernelRun c (grid0.coords t) _ _ _ _ _ _ _ _ _ _ (iblk m hO c 0 t) (iblk m hO c 1 t) (iblk m hO c 2 t) (iblk m hO c 3 t) (tbl m 0) Set.univ _)
  isplitl [H0]; · iexact H0
  isplitl [H1]; · iexact H1
  isplitl [H2]; · iexact H2
  isplitl [H3]; · iexact H3
  isplitl [H4]; · iexists _; iexact H4
  isplitl [HT0]; · iexact HT0
  iintro ⟨H0, H1, H2, H3, H4, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- At every word one of the two branches stores, -/
theorem stores_always (w : BitVec 32) : (!(k0_cond1 w == 1#1) && !(k0_cond2 w == 1#1)) = false := by
  have h := cond_flip w
  by_cases h1 : k0_cond1 w = 1#1
  · rw [h1]; rfl
  · rw [h.mpr h1]; simp

/-- so no point is idle at the output's window. -/
theorem idle4 (hO : Ok m) (t : Fin (cfgM m hO).N) : (cfgM m hO).idle (4 : Fin 5) ((cfgM m hO).grid.coords t) = false :=
  stores_always _

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  beta_reduce
  rw [idle4 m hO t]
  exact .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The frame, at any float values: the arguments end unchanged and every semaphore counter at zero, wherever the table's words keep each
    block inside its array (`Ok`, which the precondition gives). -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.ExpertsIdeal.Hand

end
-- ==== Proof.Experts.Pre.lean ====
/- Hand-written, untrusted: what the experts' precondition says of the table. -/
module

public import proofs.«01_k».proof.Pre_is_index
public import Idealize.ShloMosaic.Lib.ReduceAll
public import Idealize.ShloMosaic.Lib.Pointwise

@[expose] public section

noncomputable section

namespace Cert.Proof.Experts

open Idealize.ShloMosaic Idealize.ShloMosaic.TcCoe Idealize.SL.Sem

/-- A word that compares at least 0 is not negative. -/
theorem nonneg_of_sge (w : BitVec 32) (h : IntOp.cmpi .sge w 0#32 = 1#1) : 0 ≤ w.toInt := by
  have e : IntOp.cmpi .sge w 0#32 = BitVec.ofBool (BitVec.sle 0#32 w) := rfl
  rw [e] at h
  by_contra hn
  have e2 : BitVec.sle 0#32 w = false := by
    simp only [BitVec.sle, decide_eq_false_iff_not]
    simpa using hn
  rw [e2] at h
  exact absurd h (by decide)

/-- The precondition: no word of the table is negative. -/
theorem words_nonneg {F : FTy → Type} [FloatOps F] [hp : Cert.Pre_is_index.Facts] (x0 : IVec Cert.Pre_is_index.S144 32)
    (x1 : FVec F Cert.Pre_is_index.S73728x1024 .f32) (x2 x3 : FVec F Cert.Pre_is_index.S8x1024x1408 .f32) (x4 : FVec F Cert.Pre_is_index.S8x1408x1024 .f32)
    (e : Cert.Pre_is_index.fn (F := F) x0 x1 x2 x3 x4 = fun _ => 1#1) (i : Cert.Pre_is_index.S144.Idx) : 0 ≤ (x0 i).toInt := by
  haveI : Subsingleton Cert.Pre_is_index.S_.Idx := ⟨fun a b => funext fun k => k.elim0⟩
  exact nonneg_of_sge _ (Host.reduce_andi_all _ _ _ _ (fun a => a.elim0) (congrFun e _) i)

/-- The smaller of a word that is not negative and 7 is one of the eight experts. -/
theorem min_lt (w : BitVec 32) (h : 0 ≤ w.toInt) : (IntOp.minsi w 7#32).toNat < 8 := by
  unfold IntOp.minsi
  split
  · rename_i hs
    simp only [BitVec.slt, decide_eq_true_eq] at hs
    have h7 : (7#32).toInt = 7 := by decide
    rw [h7] at hs
    rw [BitVec.toInt_eq_toNat_cond] at h hs
    split at h <;> omega
  · decide

/-- Below 8 the word is its own. -/
theorem min_of_lt (w : BitVec 32) (h : 0 ≤ w.toInt) (hs : BitVec.slt w 8#32 = true) : (IntOp.minsi w 7#32).toNat = w.toNat ∧ w.toNat < 8 := by
  have h8 : (8#32).toInt = 8 := by decide
  have h7 : (7#32).toInt = 7 := by decide
  simp only [BitVec.slt, decide_eq_true_eq, h8] at hs
  have hw : w.toNat < 8 := by
    rw [BitVec.toInt_eq_toNat_cond] at h hs
    split at h <;> omega
  refine ⟨?_, hw⟩
  unfold IntOp.minsi
  split
  · rfl
  · rename_i hn
    simp only [BitVec.slt, decide_eq_true_eq, h7] at hn
    have : w.toNat = 7 := by
      rw [BitVec.toInt_eq_toNat_cond] at h hs hn
      split at h <;> omega
    rw [this]; rfl

end Cert.Proof.Experts

end
-- ==== Proof.ExpertsIdeal.Ok.lean ====
/- Hand-written, untrusted: where no word of the table is negative, every block of the weights lies in its array. -/
module

public import proofs.«01_k».proof.Proof.ExpertsIdeal.Frame
public import proofs.«01_k».proof.Proof.Experts.Pre

@[expose] public section

noncomputable section

namespace Cert.ExpertsIdeal.Hand

open Cert.ExpertsIdeal.Gen Idealize.ShloMosaic Idealize.ShloMosaic.TcCoe Idealize.SL.Sem

variable {F : FTy → Type} [FloatOps F] (m : (ℓ : Loc nD τ sig) → Buf (Elt F) ℓ)

/-- Each expert's first projection is a block of the array. -/
theorem block1 (e : Fin 8) : ∃ h : (∀ a, ((![e.val, 0, 0] : Fin 3 → Nat) a + 1) * S1x1024x1408.size a ≤ S8x1024x1408.size a),
    EltTy.bits .bf16 = 32 ∨ (Rect.block (s := S8x1024x1408) S1x1024x1408.size ![e.val, 0, 0] h).WholeWords (EltTy.packing .bf16) :=
  ⟨by revert e; decide, .inr (.inr ⟨by decide, rfl, rfl, rfl⟩)⟩

/-- Each expert's last projection is a block of the array. -/
theorem block3 (e : Fin 8) : ∃ h : (∀ a, ((![e.val, 0, 0] : Fin 3 → Nat) a + 1) * S1x1408x1024.size a ≤ S8x1408x1024.size a),
    EltTy.bits .bf16 = 32 ∨ (Rect.block (s := S8x1408x1024) S1x1408x1024.size ![e.val, 0, 0] h).WholeWords (EltTy.packing .bf16) :=
  ⟨by revert e; decide, .inr (.inr ⟨by decide, rfl, rfl, rfl⟩)⟩

/-- The table's words at the region's entry are the launch memory's. -/
theorem tbl_nonneg (hw : ∀ i, 0 ≤ BitVec.toInt (m (((0 : Dev nD) : Thread nD τ).loc main_arg0) i)) (i : S144.Idx) : 0 ≤ BitVec.toInt (tbl m 0 i) :=
  (congrArg (fun z : S144.Idx → BitVec 32 => BitVec.toInt (z i)) (V_main_arg0 m 0)).symm ▸ hw i

/-- The pipeline's side condition of the table. -/
theorem ok_of_words (hw : ∀ i, 0 ≤ BitVec.toInt (m (((0 : Dev nD) : Thread nD τ).loc main_arg0) i)) : Ok m := by
  have hb := fun i : S144.Idx => Cert.Proof.Experts.min_lt _ (tbl_nonneg m hw i)
  have k1 : ∀ i : grid0.Coords, ∃ e : Fin 8, cc0_transform_1 k0_off1_inb numel1_S1 (tbl m) i = ![e.val, 0, 0] := fun i => ⟨⟨_, hb _⟩, rfl⟩
  have k2 : ∀ i : grid0.Coords, ∃ e : Fin 8, cc0_transform_2 k0_off1_inb numel1_S1 (tbl m) i = ![e.val, 0, 0] := fun i => ⟨⟨_, hb _⟩, rfl⟩
  have k3 : ∀ i : grid0.Coords, ∃ e : Fin 8, cc0_transform_3 k0_off1_inb numel1_S1 (tbl m) i = ![e.val, 0, 0] := fun i => ⟨⟨_, hb _⟩, rfl⟩
  refine ⟨fun i => ?_, fun i => ?_, fun i => ?_⟩
  · obtain ⟨e, he⟩ := k1 i
    rw [he]; exact block1 e
  · obtain ⟨e, he⟩ := k2 i
    rw [he]; exact block1 e
  · obtain ⟨e, he⟩ := k3 i
    rw [he]; exact block3 e

end Cert.ExpertsIdeal.Hand

end
-- ==== Proof.Experts.Spec.lean ====
/- Hand-written, untrusted: the plain mathematics both programs of the experts are read into, over the extended reals.
   Nothing here mentions a program. -/
module

public import Idealize.ShloMosaic.Lib.Pointwise

@[expose] public section

noncomputable section

namespace Cert.Proof.Experts

open Idealize.ShloMosaic

/-- `silu`: a number times its logistic function. -/
def silu (a : EReal) : EReal := a * Ideal.div 1 (1 + Ideal.exp (-a))

/-- A row through an expert's gated unit with the weights `wg`, `wu` and `wd`. -/
def unit (x : Fin 1024 → EReal) (wg wu : Fin 1024 → Fin 1408 → EReal) (wd : Fin 1408 → Fin 1024 → EReal) (i : Fin 1024) : EReal :=
  ∑ f, (silu (∑ l, x l * wg l f) * ∑ l, x l * wu l f) * wd f i

/-- The unit of equal arrays is equal. -/
theorem unit_congr {x x' : Fin 1024 → EReal} {wg wg' wu wu' : Fin 1024 → Fin 1408 → EReal} {wd wd' : Fin 1408 → Fin 1024 → EReal} (i : Fin 1024)
    (hx : x = x') (hg : wg = wg') (hu : wu = wu') (hd : wd = wd') : unit x wg wu wd i = unit x' wg' wu' wd' i := by
  subst hx hg hu hd; rfl

/-- A row of a tile whose table word is `w`: through the expert's unit, or zero where the word names none. -/
def routed (w : BitVec 32) (x : Fin 1024 → EReal) (wg wu : Fin 8 → Fin 1024 → Fin 1408 → EReal) (wd : Fin 8 → Fin 1408 → Fin 1024 → EReal)
    (i : Fin 1024) : EReal :=
  if h : w.toNat < 8 then unit x (wg ⟨w.toNat, h⟩) (wu ⟨w.toNat, h⟩) (wd ⟨w.toNat, h⟩) i else 0

/-- The rows of equal words and arrays are equal. -/
theorem routed_congr {w w' : BitVec 32} {x x' : Fin 1024 → EReal} {wg wg' wu wu' : Fin 8 → Fin 1024 → Fin 1408 → EReal}
    {wd wd' : Fin 8 → Fin 1408 → Fin 1024 → EReal} (i : Fin 1024) (h : w = w') (hx : x = x') (hg : wg = wg') (hu : wu = wu') (hd : wd = wd') :
    routed w x wg wu wd i = routed w' x' wg' wu' wd' i := by
  subst h hx hg hu hd; rfl

/-- Of eight terms weighted 1 where the word is the term's number and 0 elsewhere, the sum is the word's term, or 0. -/
theorem gated_sum (w : BitVec 32) (y : Fin 8 → EReal) (g : Fin 8 → EReal) (hg : ∀ e : Fin 8, g e = if w.toNat = e.val then 1 else 0) :
    0 + g 0 * y 0 + g 1 * y 1 + g 2 * y 2 + g 3 * y 3 + g 4 * y 4 + g 5 * y 5 + g 6 * y 6 + g 7 * y 7
      = if h : w.toNat < 8 then y ⟨w.toNat, h⟩ else 0 := by
  simp only [hg]
  by_cases h : w.toNat < 8
  · rw [dif_pos h]
    generalize w.toNat = n at h
    interval_cases n <;> simp
  · rw [dif_neg h]
    have hn : ∀ e : Fin 8, ¬ w.toNat = e.val := fun e he => h (he ▸ e.isLt)
    simp only [hn, if_false, zero_mul, add_zero]

end Cert.Proof.Experts

end
-- ==== Proof.Experts.Body.lean ====
/- Hand-written, untrusted: what the experts' body leaves for a tile of 512 rows, read at an index. -/
module

public import proofs.«01_k».proof.Proof.Gen.ExpertsIdeal.Skeleton
public import proofs.«01_k».proof.Proof.Experts.Spec

@[expose] public section

set_option maxRecDepth 16384

noncomputable section

namespace Cert.Proof.Experts

open Cert.ExpertsIdeal Cert.ExpertsIdeal.Gen Idealize.ShloMosaic

/-- A tile with an expert. -/
theorem pay1 (x : Vec Ideal S512x1024 .f32) (wg wu : Vec Ideal S1x1024x1408 .bf16) (wd : Vec Ideal S1x1408x1024 .bf16) (r : Fin 512) (i : Fin 1024) :
    k0_pay1 (F := Ideal) x wg wu wd (ix2 r i)
      = unit (fun l => x (ix2 r l)) (fun l f => wg (ix3 0 l f)) (fun l f => wu (ix3 0 l f)) (fun f i => wd (ix3 0 f i)) i := by
  pointwise [k0_pay1]
  simp only [zero_sub]
  rfl

/-- A tile without. -/
theorem pay2 (r : Fin 512) (i : Fin 1024) : k0_pay2 (F := Ideal) (ix2 r i) = 0 := by
  pointwise [k0_pay2]

end Cert.Proof.Experts

end
-- ==== Proof.Experts.Final.lean ====
/- Hand-written, untrusted: the experts' result array as one function of the arrays its call is given. -/
module

public import proofs.«01_k».proof.Proof.ExpertsIdeal.Ok
public import proofs.«01_k».proof.Proof.Experts.Body
public import Idealize.ShloMosaic.Lib.Pipeline.ValueKit
public import Idealize.ShloMosaic.Lib.Pipeline.Covers
public import Idealize.ShloMosaic.Lib.ValueLayout

@[expose] public section

set_option maxRecDepth 16384

noncomputable section

namespace Cert.Proof.Experts

open Cert.ExpertsIdeal Cert.ExpertsIdeal.Gen Cert.ExpertsIdeal.Hand Idealize.ShloMosaic Idealize.ShloMosaic.TcCoe Idealize.SL.Sem

variable (m : (ℓ : Loc nD τ sig) → Buf (Elt Ideal) ℓ) (hO : Ok m)

theorem idx0 : ∀ t : Fin grid0.N, cc0_transform_0 (grid0.coords t) = ![t.val, 0] := by decide +kernel
theorem idx4 : ∀ t : Fin grid0.N, cc0_transform_4 (grid0.coords t) = ![t.val, 0] := by decide +kernel
theorem off1 : ∀ t : Fin grid0.N, k0_off1 (grid0.coords t) 0 = t.val := by decide +kernel

theorem pt (t : Fin grid0.N) : t.val < 144 := by
  have := t.isLt; change _ < 144 at this; omega

/-- The table's word of a grid point. -/
abbrev wd (t : Fin grid0.N) : BitVec 32 := tbl m 0 (ix1 ⟨t.val, pt t⟩)

/-- It is the word the body loads. -/
theorem word_eq (c : Dev nD) (t : Fin grid0.N) (X : S144.Idx → BitVec 32) : word (F := Ideal) c (grid0.coords t) X = X (ix1 ⟨t.val, pt t⟩) := by
  unfold word
  refine congrArg X (funext fun z => Fin.ext ?_)
  match z with
  | ⟨0, _⟩ =>
    show k0_off1 (grid0.coords t) 0 + 1 * _ = t.val
    rw [off1 t]
    have : ∀ a : Fin 1, t.val + 1 * a.val = t.val := by intro a; omega
    exact this _

/-- And the word the weights' blocks are chosen by. -/
theorem chosen (t : Fin grid0.N) : cc0_transform_1 k0_off1_inb numel1_S1 (tbl m) (grid0.coords t) = ![(IntOp.minsi (wd m t) 7#32).toNat, 0, 0] := by
  have h : ∀ u : BitVec 32, u = wd m t → (![(IntOp.minsi u 7#32).toNat, 0, 0] : Fin 3 → Nat) = ![(IntOp.minsi (wd m t) 7#32).toNat, 0, 0] := by
    rintro u rfl; rfl
  refine h _ ?_
  refine congrArg (tbl m 0) (funext fun z => Fin.ext ?_)
  match z with
  | ⟨0, _⟩ =>
    show k0_off1 (grid0.coords t) 0 + 1 * _ = t.val
    rw [off1 t]
    have : ∀ a : Fin 1, t.val + 1 * a.val = t.val := by intro a; omega
    exact this _

/-- A block of the rows at a grid point, entry by entry. -/
theorem blk0 (t : Fin grid0.N) (Z : Vec Ideal S73728x1024 .f32) (r : Fin 512) (l : Fin 1024) :
    View.read (Elt Ideal) (((cfgM m hO).win 0).blk t).view Z (ix2 r l) = Z (ix2 ⟨t.val * 512 + r, by have := pt t; omega⟩ l) := by
  have i := idx0 t
  have e0 := congrFun i (0 : Fin 2)
  have e1 := congrFun i (1 : Fin 2)
  change Z ((((cfgM m hO).win 0).blk t).view.emb (ix2 r l)) = _
  refine congrArg Z (funext fun z => Fin.ext ?_)
  match z with
  | ⟨0, _⟩ => show cc0_transform_0 (grid0.coords t) (0 : Fin 2) * 512 + 1 * r.val = t.val * 512 + r.val; simp only [e0]; simp
  | ⟨1, _⟩ => show cc0_transform_0 (grid0.coords t) (1 : Fin 2) * 1024 + 1 * l.val = l.val; simp only [e1]; simp

/-- A block of the first weights. -/
theorem blk1 (t : Fin grid0.N) (e : Fin 8) (he : (IntOp.minsi (wd m t) 7#32).toNat = e.val) (Z : Vec Ideal S8x1024x1408 .bf16) (l : Fin 1024) (f : Fin 1408) :
    View.read (Elt Ideal) (((cfgM m hO).win 1).blk t).view Z (ix3 0 l f) = Z (ix3 e l f) := by
  have i := chosen m t
  rw [he] at i
  have e0 := congrFun i (0 : Fin 3)
  have e1 := congrFun i (1 : Fin 3)
  have e2 := congrFun i (2 : Fin 3)
  change Z ((((cfgM m hO).win 1).blk t).view.emb (ix3 0 l f)) = _
  refine congrArg Z (funext fun z => Fin.ext ?_)
  match z with
  | ⟨0, _⟩ => show cc0_transform_1 k0_off1_inb numel1_S1 (tbl m) (grid0.coords t) (0 : Fin 3) * 1 + 1 * 0 = e.val; rw [e0]; simp
  | ⟨1, _⟩ => show cc0_transform_1 k0_off1_inb numel1_S1 (tbl m) (grid0.coords t) (1 : Fin 3) * 1024 + 1 * l.val = l.val; rw [e1]; simp
  | ⟨2, _⟩ => show cc0_transform_1 k0_off1_inb numel1_S1 (tbl m) (grid0.coords t) (2 : Fin 3) * 1408 + 1 * f.val = f.val; rw [e2]; simp

/-- A block of the second weights. -/
theorem blk2 (t : Fin grid0.N) (e : Fin 8) (he : (IntOp.minsi (wd m t) 7#32).toNat = e.val) (Z : Vec Ideal S8x1024x1408 .bf16) (l : Fin 1024) (f : Fin 1408) :
    View.read (Elt Ideal) (((cfgM m hO).win 2).blk t).view Z (ix3 0 l f) = Z (ix3 e l f) := by
  have i := chosen m t
  rw [he] at i
  have e0 := congrFun i (0 : Fin 3)
  have e1 := congrFun i (1 : Fin 3)
  have e2 := congrFun i (2 : Fin 3)
  change Z ((((cfgM m hO).win 2).blk t).view.emb (ix3 0 l f)) = _
  refine congrArg Z (funext fun z => Fin.ext ?_)
  match z with
  | ⟨0, _⟩ => show cc0_transform_1 k0_off1_inb numel1_S1 (tbl m) (grid0.coords t) (0 : Fin 3) * 1 + 1 * 0 = e.val; rw [e0]; simp
  | ⟨1, _⟩ => show cc0_transform_1 k0_off1_inb numel1_S1 (tbl m) (grid0.coords t) (1 : Fin 3) * 1024 + 1 * l.val = l.val; rw [e1]; simp
  | ⟨2, _⟩ => show cc0_transform_1 k0_off1_inb numel1_S1 (tbl m) (grid0.coords t) (2 : Fin 3) * 1408 + 1 * f.val = f.val; rw [e2]; simp

/-- A block of the last weights. -/
theorem blk3 (t : Fin grid0.N) (e : Fin 8) (he : (IntOp.minsi (wd m t) 7#32).toNat = e.val) (Z : Vec Ideal S8x1408x1024 .bf16) (f : Fin 1408) (l : Fin 1024) :
    View.read (Elt Ideal) (((cfgM m hO).win 3).blk t).view Z (ix3 0 f l) = Z (ix3 e f l) := by
  have i := chosen m t
  rw [he] at i
  have e0 := congrFun i (0 : Fin 3)
  have e1 := congrFun i (1 : Fin 3)
  have e2 := congrFun i (2 : Fin 3)
  change Z ((((cfgM m hO).win 3).blk t).view.emb (ix3 0 f l)) = _
  refine congrArg Z (funext fun z => Fin.ext ?_)
  match z with
  | ⟨0, _⟩ => show cc0_transform_1 k0_off1_inb numel1_S1 (tbl m) (grid0.coords t) (0 : Fin 3) * 1 + 1 * 0 = e.val; rw [e0]; simp
  | ⟨1, _⟩ => show cc0_transform_1 k0_off1_inb numel1_S1 (tbl m) (grid0.coords t) (1 : Fin 3) * 1408 + 1 * f.val = f.val; rw [e1]; simp
  | ⟨2, _⟩ => show cc0_transform_1 k0_off1_inb numel1_S1 (tbl m) (grid0.coords t) (2 : Fin 3) * 1024 + 1 * l.val = l.val; rw [e2]; simp

/-- The result at row `R`, column `i`, from the arrays the call is given. -/
def outAt (te : S144.Idx → BitVec 32) (x : Vec Ideal S73728x1024 .f32) (wg wu : Vec Ideal S8x1024x1408 .bf16) (wd : Vec Ideal S8x1408x1024 .bf16)
    (R : Fin 73728) (i : Fin 1024) : EReal :=
  routed (te (ix1 ⟨R / 512, by omega⟩)) (fun l => x (ix2 R l)) (fun e l f => wg (ix3 e l f)) (fun e l f => wu (ix3 e l f)) (fun e f i => wd (ix3 e f i)) i

/-- The result array. -/
def outOf (te : S144.Idx → BitVec 32) (x : Vec Ideal S73728x1024 .f32) (wg wu : Vec Ideal S8x1024x1408 .bf16) (wd : Vec Ideal S8x1408x1024 .bf16) :
    Vec Ideal S73728x1024 .f32 := fun j => outAt te x wg wu wd (j 0) (j 1)

/-- What the body leaves at a grid point is the result's tile. -/
theorem tile (c : Dev nD) (hw : ∀ i, 0 ≤ BitVec.toInt (tbl m 0 i)) (t : Fin grid0.N) (r : Fin 512) (i : Fin 1024) :
    outsAt0 m hO c t (ix2 r i) = outAt (tbl m 0) (V m c main_arg1) (V m c main_v0) (V m c main_v1) (V m c main_v2)
      ⟨t.val * 512 + r, by have := pt t; omega⟩ i := by
  have ht : (t.val * 512 + r.val) / 512 = t.val := by omega
  unfold outsAt0 left outAt
  simp only [ht]
  rw [show word c (grid0.coords t) (tbl m 0) = wd m t from word_eq c t (tbl m 0)]
  by_cases h : k0_cond1 (wd m t) = 1#1
  · rw [if_pos h]
    obtain ⟨e1, e2⟩ := min_of_lt (wd m t) (hw _) ((cond1_iff _).mp h)
    refine (pay1 _ _ _ _ r i).trans ?_
    unfold routed
    rw [dif_pos e2]
    have hx : (fun l => iblk m hO c 0 t (ix2 r l)) = fun l => V m c main_arg1 (ix2 ⟨t.val * 512 + r, by have := pt t; omega⟩ l) :=
      funext fun l => blk0 m hO t (V m c main_arg1) r l
    have hg : (fun l f => iblk m hO c 1 t (ix3 0 l f)) = fun l f => V m c main_v0 (ix3 ⟨(wd m t).toNat, e2⟩ l f) :=
      funext fun l => funext fun f => blk1 m hO t ⟨_, e2⟩ e1 (V m c main_v0) l f
    have hu : (fun l f => iblk m hO c 2 t (ix3 0 l f)) = fun l f => V m c main_v1 (ix3 ⟨(wd m t).toNat, e2⟩ l f) :=
      funext fun l => funext fun f => blk2 m hO t ⟨_, e2⟩ e1 (V m c main_v1) l f
    have hd : (fun f l => iblk m hO c 3 t (ix3 0 f l)) = fun f l => V m c main_v2 (ix3 ⟨(wd m t).toNat, e2⟩ f l) :=
      funext fun f => funext fun l => blk3 m hO t ⟨_, e2⟩ e1 (V m c main_v2) f l
    exact unit_congr i hx hg hu hd
  · rw [if_neg h]
    refine (pay2 r i).trans ?_
    unfold routed
    rw [dif_neg]
    intro h8
    replace h8 : (wd m t).toNat < 8 := h8
    refine h ((cond1_iff _).mpr ?_)
    have h8' : (8#32).toInt = 8 := by decide
    simp only [BitVec.slt, decide_eq_true_eq, h8']
    rw [BitVec.toInt_eq_toNat_cond]
    split <;> omega

/-- The place of a block's entry in the result array. -/
theorem place (te : S144.Idx → BitVec 32) (x : Vec Ideal S73728x1024 .f32) (wg wu : Vec Ideal S8x1024x1408 .bf16) (wd : Vec Ideal S8x1408x1024 .bf16)
    (t : Fin grid0.N) (r : Fin 512) (i : Fin 1024) :
    outAt te x wg wu wd ⟨t.val * 512 + r, by have := pt t; omega⟩ i = outOf te x wg wu wd ((((cfgM m hO).win 4).blk t).view.emb (ix2 r i)) := by
  have e0 : cc0_transform_4 (grid0.coords t) (0 : Fin 2) = t.val := congrFun (idx4 t) (0 : Fin 2)
  have e1 : cc0_transform_4 (grid0.coords t) (1 : Fin 2) = 0 := congrFun (idx4 t) (1 : Fin 2)
  have e : (((cfgM m hO).win 4).blk t).view.emb (ix2 r i) = ix2 (⟨t.val * 512 + r, by have := pt t; omega⟩ : Fin 73728) i := by
    refine funext fun z => Fin.ext ?_
    match z with
    | ⟨0, _⟩ => show cc0_transform_4 (grid0.coords t) (0 : Fin 2) * 512 + 1 * r.val = t.val * 512 + r.val; omega
    | ⟨1, _⟩ => show cc0_transform_4 (grid0.coords t) (1 : Fin 2) * 1024 + 1 * i.val = i.val; omega
  rw [e]
  rfl

/-- Every block of the result array is some grid point's. -/
theorem covers : ((cfgM m hO).win 4).Covers := by
  refine Pipeline.Window.covers_of_index_surj _ rfl (by decide : ∀ a : Fin 2, 0 < S512x1024.size a) fun β => ?_
  have h0 : (β (0 : Fin 2)).val < 144 := lt_of_lt_of_eq (β (0 : Fin 2)).isLt (by show (73728 + 512 - 1) / 512 = 144; norm_num)
  have h1 : (β (1 : Fin 2)).val < 1 := lt_of_lt_of_eq (β (1 : Fin 2)).isLt (by show (1024 + 1024 - 1) / 1024 = 1; norm_num)
  refine ⟨⟨(β (0 : Fin 2)).val, h0⟩, fun a => ?_⟩
  have i := idx4 ⟨(β (0 : Fin 2)).val, h0⟩
  match a with
  | ⟨0, _⟩ => exact congrFun i (0 : Fin 2)
  | ⟨1, _⟩ =>
    refine (congrFun i (1 : Fin 2)).trans ?_
    show 0 = (β (1 : Fin 2)).val
    omega

/-- The result array the grid leaves, as one function of the arrays the call is given. -/
theorem final (c : Dev nD) (hw : ∀ i, 0 ≤ BitVec.toInt (tbl m 0 i)) : (dats m hO 0 c).arrAt 4 (cfgM m hO).N
    = outOf (tbl m 0) (V m c main_arg1) (V m c main_v0) (V m c main_v1) (V m c main_v2) := by
  refine (dats m hO 0 c).arrAt_eq_of_covers 4 _ (covers m hO) fun t hf y => ?_
  change S512x1024.Idx at y
  obtain ⟨r, i, rfl⟩ : ∃ (r : Fin 512) (i : Fin 1024), y = ix2 r i := ⟨y (0 : Fin 2), y (1 : Fin 2), by funext z; match z with | ⟨0, _⟩ => rfl | ⟨1, _⟩ => rfl⟩
  refine Eq.trans ?_ (place m hO _ _ _ _ _ t r i)
  refine Eq.trans ?_ (tile m hO c hw t r i)
  exact congrFun (after0_4 m hO c t) (ix2 r i)

end Cert.Proof.Experts

end
-- ==== Proof.Experts.Host.lean ====
/- Hand-written, untrusted: the weights the experts' call is given, entry by entry, from the program's arguments. -/
module

public import proofs.«01_k».proof.Proof.ExpertsIdeal.Runs
public import proofs.«01_k».proof.Proof.Experts.Spec
public import Idealize.ShloMosaic.Lib.StableHlo.ReadAt

@[expose] public section

set_option maxRecDepth 16384

noncomputable section

namespace Cert.Proof.Experts

open Cert.ExpertsIdeal Cert.ExpertsIdeal.Gen Cert.ExpertsIdeal.Hand Idealize.ShloMosaic Idealize.ShloMosaic.TcCoe Idealize.SL.Sem

variable (m : (ℓ : Loc nD τ sig) → Buf (Elt Ideal) ℓ)

theorem v0 (c : Dev nD) (e : Fin 8) (l : Fin 1024) (f : Fin 1408) :
    V m c main_v0 (ix3 e l f) = m (c, Proc.tc.devRef main_arg2) (ix3 e l f) := by
  unfold V
  after_reads_at

theorem v1 (c : Dev nD) (e : Fin 8) (l : Fin 1024) (f : Fin 1408) :
    V m c main_v1 (ix3 e l f) = m (c, Proc.tc.devRef main_arg3) (ix3 e l f) := by
  unfold V
  after_reads_at

theorem v2 (c : Dev nD) (e : Fin 8) (f : Fin 1408) (i : Fin 1024) :
    V m c main_v2 (ix3 e f i) = m (c, Proc.tc.devRef main_arg4) (ix3 e f i) := by
  unfold V
  after_reads_at

end Cert.Proof.Experts

end
-- ==== Proof.Experts.Ref.lean ====
/- Hand-written, untrusted: the experts' reference, entry by entry. -/
module

public import proofs.«01_k».proof.Proof.Gen.ExpertsRefIdeal.Read
public import proofs.«01_k».proof.Proof.Experts.Spec

@[expose] public section

set_option maxRecDepth 16384

noncomputable section

namespace Cert.Proof.Experts.Ref

open Cert.ExpertsRefIdeal Cert.ExpertsRefIdeal.Gen Cert.ExpertsRefIdeal.Read Idealize.ShloMosaic Idealize.ShloMosaic.TcCoe Idealize.SL.Sem

variable (x0 : IVec S144 32) (x1 : Vec Ideal S73728x1024 .f32) (x2 x3 : Vec Ideal S8x1024x1408 .f32) (x4 : Vec Ideal S8x1408x1024 .f32)

/-- A comparison read as a number. -/
theorem onehot (w : BitVec 32) (e : Fin 8) :
    (FloatOps.uitofp (F := Ideal) .f32 (IntOp.cmpi .eq w (BitVec.ofNat 32 e.val)) : EReal) = if w.toNat = e.val then 1 else 0 := by
  have hq : (w = BitVec.ofNat 32 e.val) ↔ w.toNat = e.val := by
    rw [← BitVec.toNat_inj, BitVec.toNat_ofNat, Nat.mod_eq_of_lt (by omega)]
  by_cases h : w.toNat = e.val
  · rw [if_pos h, hq.mpr h]
    have : IntOp.cmpi .eq (BitVec.ofNat 32 e.val) (BitVec.ofNat 32 e.val) = 1#1 := by simp [IntOp.cmpi]
    rw [this]
    show (((1#1 : BitVec 1).toNat : ℝ) : EReal) = 1
    simp
  · rw [if_neg h]
    have : IntOp.cmpi .eq w (BitVec.ofNat 32 e.val) = 0#1 := by
      have hb : (w == BitVec.ofNat 32 e.val) = false := beq_eq_false_iff_ne.mpr (fun hh => h (hq.mp hh))
      show BitVec.ofBool (w == BitVec.ofNat 32 e.val) = 0#1
      rw [hb]; rfl
    rw [this]
    show (((0#1 : BitVec 1).toNat : ℝ) : EReal) = 0
    simp

/-- A row's gate for each expert. -/
theorem gate (R : Fin 73728) (e : Fin 8) : val_main_v2 (F := Ideal) x0 (ix2 R e)
    = if (x0 (ix1 ⟨R / 512, by omega⟩)).toNat = e.val then 1 else 0 := by
  refine Eq.trans ?_ (onehot _ e)
  rw [val_main_v2_apply, val_main_call0_v4_apply, val_main_call0_v2_apply, val_main_call0_v0_apply, val_main_v1_apply, val_main_v0_apply,
    val_main_call0_v3_apply, val_main_call0_v1_apply]
  refine congrArg (fun z => FloatOps.uitofp (F := Ideal) .f32 (IntOp.cmpi .eq (x0 z) (BitVec.ofNat 32 e.val))) (funext fun a => ?_)
  match a with
  | ⟨0, _⟩ => rfl

/-- Expert 0's inner rows. -/
theorem inner0 (R : Fin 73728) (f : Fin 1408) : val_main_v14 (F := Ideal) x1 x2 x3 (ix2 R f)
    = silu (∑ l, x1 (ix2 R l) * x2 (ix3 0 l f)) * ∑ l, x1 (ix2 R l) * x3 (ix3 0 l f) := by
  pointwise [val_main_v14, val_main_v13, val_main_v12, val_main_v11, val_main_v8, val_main_v7, val_main_v6, val_main_v5, val_main_call1_v5, val_main_call1_v4, val_main_call1_v3, val_main_call1_v2, val_main_call1_v1, val_main_call1_v0, val_main_call1_cst, val_main_call1_cst_0]
  rfl

/-- Expert 0's rows. -/
theorem expert0 (R : Fin 73728) (i : Fin 1024) : val_main_v15 (F := Ideal) x1 x2 x3 x4 (ix2 R i)
    = unit (fun l => x1 (ix2 R l)) (fun l f => x2 (ix3 0 l f)) (fun l f => x3 (ix3 0 l f)) (fun f i => x4 (ix3 0 f i)) i := by
  have p := inner0 x1 x2 x3 R
  unfold val_main_v15
  generalize val_main_v14 (F := Ideal) x1 x2 x3 = y at p ⊢
  pointwise [val_main_v10, val_main_v9]
  simp only [p]
  rfl

/-- A row's gate for expert 0, along the row. -/
theorem gate0 (R : Fin 73728) (i : Fin 1024) : val_main_v16 (F := Ideal) x0 (ix2 R i) = val_main_v2 (F := Ideal) x0 (ix2 R 0) := by
  unfold val_main_v16 val_main_v4
  generalize val_main_v2 (F := Ideal) x0 = y
  pointwise

/-- Expert 1's inner rows. -/
theorem inner1 (R : Fin 73728) (f : Fin 1408) : val_main_v29 (F := Ideal) x1 x2 x3 (ix2 R f)
    = silu (∑ l, x1 (ix2 R l) * x2 (ix3 1 l f)) * ∑ l, x1 (ix2 R l) * x3 (ix3 1 l f) := by
  pointwise [val_main_v29, val_main_v28, val_main_v27, val_main_v26, val_main_v23, val_main_v22, val_main_v21, val_main_v20, val_main_call2_v5, val_main_call2_v4, val_main_call2_v3, val_main_call2_v2, val_main_call2_v1, val_main_call2_v0, val_main_call2_cst, val_main_call2_cst_0]
  rfl

/-- Expert 1's rows. -/
theorem expert1 (R : Fin 73728) (i : Fin 1024) : val_main_v30 (F := Ideal) x1 x2 x3 x4 (ix2 R i)
    = unit (fun l => x1 (ix2 R l)) (fun l f => x2 (ix3 1 l f)) (fun l f => x3 (ix3 1 l f)) (fun f i => x4 (ix3 1 f i)) i := by
  have p := inner1 x1 x2 x3 R
  unfold val_main_v30
  generalize val_main_v29 (F := Ideal) x1 x2 x3 = y at p ⊢
  pointwise [val_main_v25, val_main_v24]
  simp only [p]
  rfl

/-- A row's gate for expert 1, along the row. -/
theorem gate1 (R : Fin 73728) (i : Fin 1024) : val_main_v31 (F := Ideal) x0 (ix2 R i) = val_main_v2 (F := Ideal) x0 (ix2 R 1) := by
  unfold val_main_v31 val_main_v19
  generalize val_main_v2 (F := Ideal) x0 = y
  pointwise

/-- Expert 2's inner rows. -/
theorem inner2 (R : Fin 73728) (f : Fin 1408) : val_main_v44 (F := Ideal) x1 x2 x3 (ix2 R f)
    = silu (∑ l, x1 (ix2 R l) * x2 (ix3 2 l f)) * ∑ l, x1 (ix2 R l) * x3 (ix3 2 l f) := by
  pointwise [val_main_v44, val_main_v43, val_main_v42, val_main_v41, val_main_v38, val_main_v37, val_main_v36, val_main_v35, val_main_call3_v5, val_main_call3_v4, val_main_call3_v3, val_main_call3_v2, val_main_call3_v1, val_main_call3_v0, val_main_call3_cst, val_main_call3_cst_0]
  rfl

/-- Expert 2's rows. -/
theorem expert2 (R : Fin 73728) (i : Fin 1024) : val_main_v45 (F := Ideal) x1 x2 x3 x4 (ix2 R i)
    = unit (fun l => x1 (ix2 R l)) (fun l f => x2 (ix3 2 l f)) (fun l f => x3 (ix3 2 l f)) (fun f i => x4 (ix3 2 f i)) i := by
  have p := inner2 x1 x2 x3 R
  unfold val_main_v45
  generalize val_main_v44 (F := Ideal) x1 x2 x3 = y at p ⊢
  pointwise [val_main_v40, val_main_v39]
  simp only [p]
  rfl

/-- A row's gate for expert 2, along the row. -/
theorem gate2 (R : Fin 73728) (i : Fin 1024) : val_main_v46 (F := Ideal) x0 (ix2 R i) = val_main_v2 (F := Ideal) x0 (ix2 R 2) := by
  unfold val_main_v46 val_main_v34
  generalize val_main_v2 (F := Ideal) x0 = y
  pointwise

/-- Expert 3's inner rows. -/
theorem inner3 (R : Fin 73728) (f : Fin 1408) : val_main_v59 (F := Ideal) x1 x2 x3 (ix2 R f)
    = silu (∑ l, x1 (ix2 R l) * x2 (ix3 3 l f)) * ∑ l, x1 (ix2 R l) * x3 (ix3 3 l f) := by
  pointwise [val_main_v59, val_main_v58, val_main_v57, val_main_v56, val_main_v53, val_main_v52, val_main_v51, val_main_v50, val_main_call4_v5, val_main_call4_v4, val_main_call4_v3, val_main_call4_v2, val_main_call4_v1, val_main_call4_v0, val_main_call4_cst, val_main_call4_cst_0]
  rfl

/-- Expert 3's rows. -/
theorem expert3 (R : Fin 73728) (i : Fin 1024) : val_main_v60 (F := Ideal) x1 x2 x3 x4 (ix2 R i)
    = unit (fun l => x1 (ix2 R l)) (fun l f => x2 (ix3 3 l f)) (fun l f => x3 (ix3 3 l f)) (fun f i => x4 (ix3 3 f i)) i := by
  have p := inner3 x1 x2 x3 R
  unfold val_main_v60
  generalize val_main_v59 (F := Ideal) x1 x2 x3 = y at p ⊢
  pointwise [val_main_v55, val_main_v54]
  simp only [p]
  rfl

/-- A row's gate for expert 3, along the row. -/
theorem gate3 (R : Fin 73728) (i : Fin 1024) : val_main_v61 (F := Ideal) x0 (ix2 R i) = val_main_v2 (F := Ideal) x0 (ix2 R 3) := by
  unfold val_main_v61 val_main_v49
  generalize val_main_v2 (F := Ideal) x0 = y
  pointwise

/-- Expert 4's inner rows. -/
theorem inner4 (R : Fin 73728) (f : Fin 1408) : val_main_v74 (F := Ideal) x1 x2 x3 (ix2 R f)
    = silu (∑ l, x1 (ix2 R l) * x2 (ix3 4 l f)) * ∑ l, x1 (ix2 R l) * x3 (ix3 4 l f) := by
  pointwise [val_main_v74, val_main_v73, val_main_v72, val_main_v71, val_main_v68, val_main_v67, val_main_v66, val_main_v65, val_main_call5_v5, val_main_call5_v4, val_main_call5_v3, val_main_call5_v2, val_main_call5_v1, val_main_call5_v0, val_main_call5_cst, val_main_call5_cst_0]
  rfl

/-- Expert 4's rows. -/
theorem expert4 (R : Fin 73728) (i : Fin 1024) : val_main_v75 (F := Ideal) x1 x2 x3 x4 (ix2 R i)
    = unit (fun l => x1 (ix2 R l)) (fun l f => x2 (ix3 4 l f)) (fun l f => x3 (ix3 4 l f)) (fun f i => x4 (ix3 4 f i)) i := by
  have p := inner4 x1 x2 x3 R
  unfold val_main_v75
  generalize val_main_v74 (F := Ideal) x1 x2 x3 = y at p ⊢
  pointwise [val_main_v70, val_main_v69]
  simp only [p]
  rfl

/-- A row's gate for expert 4, along the row. -/
theorem gate4 (R : Fin 73728) (i : Fin 1024) : val_main_v76 (F := Ideal) x0 (ix2 R i) = val_main_v2 (F := Ideal) x0 (ix2 R 4) := by
  unfold val_main_v76 val_main_v64
  generalize val_main_v2 (F := Ideal) x0 = y
  pointwise

/-- Expert 5's inner rows. -/
theorem inner5 (R : Fin 73728) (f : Fin 1408) : val_main_v89 (F := Ideal) x1 x2 x3 (ix2 R f)
    = silu (∑ l, x1 (ix2 R l) * x2 (ix3 5 l f)) * ∑ l, x1 (ix2 R l) * x3 (ix3 5 l f) := by
  pointwise [val_main_v89, val_main_v88, val_main_v87, val_main_v86, val_main_v83, val_main_v82, val_main_v81, val_main_v80, val_main_call6_v5, val_main_call6_v4, val_main_call6_v3, val_main_call6_v2, val_main_call6_v1, val_main_call6_v0, val_main_call6_cst, val_main_call6_cst_0]
  rfl

/-- Expert 5's rows. -/
theorem expert5 (R : Fin 73728) (i : Fin 1024) : val_main_v90 (F := Ideal) x1 x2 x3 x4 (ix2 R i)
    = unit (fun l => x1 (ix2 R l)) (fun l f => x2 (ix3 5 l f)) (fun l f => x3 (ix3 5 l f)) (fun f i => x4 (ix3 5 f i)) i := by
  have p := inner5 x1 x2 x3 R
  unfold val_main_v90
  generalize val_main_v89 (F := Ideal) x1 x2 x3 = y at p ⊢
  pointwise [val_main_v85, val_main_v84]
  simp only [p]
  rfl

/-- A row's gate for expert 5, along the row. -/
theorem gate5 (R : Fin 73728) (i : Fin 1024) : val_main_v91 (F := Ideal) x0 (ix2 R i) = val_main_v2 (F := Ideal) x0 (ix2 R 5) := by
  unfold val_main_v91 val_main_v79
  generalize val_main_v2 (F := Ideal) x0 = y
  pointwise

/-- Expert 6's inner rows. -/
theorem inner6 (R : Fin 73728) (f : Fin 1408) : val_main_v104 (F := Ideal) x1 x2 x3 (ix2 R f)
    = silu (∑ l, x1 (ix2 R l) * x2 (ix3 6 l f)) * ∑ l, x1 (ix2 R l) * x3 (ix3 6 l f) := by
  pointwise [val_main_v104, val_main_v103, val_main_v102, val_main_v101, val_main_v98, val_main_v97, val_main_v96, val_main_v95, val_main_call7_v5, val_main_call7_v4, val_main_call7_v3, val_main_call7_v2, val_main_call7_v1, val_main_call7_v0, val_main_call7_cst, val_main_call7_cst_0]
  rfl

/-- Expert 6's rows. -/
theorem expert6 (R : Fin 73728) (i : Fin 1024) : val_main_v105 (F := Ideal) x1 x2 x3 x4 (ix2 R i)
    = unit (fun l => x1 (ix2 R l)) (fun l f => x2 (ix3 6 l f)) (fun l f => x3 (ix3 6 l f)) (fun f i => x4 (ix3 6 f i)) i := by
  have p := inner6 x1 x2 x3 R
  unfold val_main_v105
  generalize val_main_v104 (F := Ideal) x1 x2 x3 = y at p ⊢
  pointwise [val_main_v100, val_main_v99]
  simp only [p]
  rfl

/-- A row's gate for expert 6, along the row. -/
theorem gate6 (R : Fin 73728) (i : Fin 1024) : val_main_v106 (F := Ideal) x0 (ix2 R i) = val_main_v2 (F := Ideal) x0 (ix2 R 6) := by
  unfold val_main_v106 val_main_v94
  generalize val_main_v2 (F := Ideal) x0 = y
  pointwise

/-- Expert 7's inner rows. -/
theorem inner7 (R : Fin 73728) (f : Fin 1408) : val_main_v119 (F := Ideal) x1 x2 x3 (ix2 R f)
    = silu (∑ l, x1 (ix2 R l) * x2 (ix3 7 l f)) * ∑ l, x1 (ix2 R l) * x3 (ix3 7 l f) := by
  pointwise [val_main_v119, val_main_v118, val_main_v117, val_main_v116, val_main_v113, val_main_v112, val_main_v111, val_main_v110, val_main_call8_v5, val_main_call8_v4, val_main_call8_v3, val_main_call8_v2, val_main_call8_v1, val_main_call8_v0, val_main_call8_cst, val_main_call8_cst_0]
  rfl

/-- Expert 7's rows. -/
theorem expert7 (R : Fin 73728) (i : Fin 1024) : val_main_v120 (F := Ideal) x1 x2 x3 x4 (ix2 R i)
    = unit (fun l => x1 (ix2 R l)) (fun l f => x2 (ix3 7 l f)) (fun l f => x3 (ix3 7 l f)) (fun f i => x4 (ix3 7 f i)) i := by
  have p := inner7 x1 x2 x3 R
  unfold val_main_v120
  generalize val_main_v119 (F := Ideal) x1 x2 x3 = y at p ⊢
  pointwise [val_main_v115, val_main_v114]
  simp only [p]
  rfl

/-- A row's gate for expert 7, along the row. -/
theorem gate7 (R : Fin 73728) (i : Fin 1024) : val_main_v121 (F := Ideal) x0 (ix2 R i) = val_main_v2 (F := Ideal) x0 (ix2 R 7) := by
  unfold val_main_v121 val_main_v109
  generalize val_main_v2 (F := Ideal) x0 = y
  pointwise

/-- The result: each row through the expert its tile's table word names, or zero. -/
theorem v123 (R : Fin 73728) (i : Fin 1024) : val_main_v123 (F := Ideal) x0 x1 x2 x3 x4 (ix2 R i)
    = routed (x0 (ix1 ⟨R / 512, by omega⟩)) (fun l => x1 (ix2 R l)) (fun e l f => x2 (ix3 e l f)) (fun e l f => x3 (ix3 e l f)) (fun e f i => x4 (ix3 e f i)) i := by
  have z : val_main_v3 (F := Ideal) (ix2 R i) = 0 := by pointwise [val_main_v3, val_main_cst]
  refine Eq.trans ?_ (gated_sum (x0 (ix1 ⟨R / 512, by omega⟩))
    (fun e => unit (fun l => x1 (ix2 R l)) (fun l f => x2 (ix3 e l f)) (fun l f => x3 (ix3 e l f)) (fun f i => x4 (ix3 e f i)) i)
    (fun e => val_main_v2 (F := Ideal) x0 (ix2 R e)) (gate x0 R))
  rw [val_main_v123_apply, val_main_v122_apply, gate7, expert7]
  rw [val_main_v108_apply, val_main_v107_apply, gate6, expert6]
  rw [val_main_v93_apply, val_main_v92_apply, gate5, expert5]
  rw [val_main_v78_apply, val_main_v77_apply, gate4, expert4]
  rw [val_main_v63_apply, val_main_v62_apply, gate3, expert3]
  rw [val_main_v48_apply, val_main_v47_apply, gate2, expert2]
  rw [val_main_v33_apply, val_main_v32_apply, gate1, expert1]
  rw [val_main_v18_apply, val_main_v17_apply, gate0, expert0]
  rw [z]
  rfl

end Cert.Proof.Experts.Ref

end
-- ==== Proof.Experts.Same.lean ====
/- Hand-written, untrusted: the experts' kernel and the program over the extended reals are one text, so that what is proved of
   the second's run at any float values is the first's at floating-point words. -/
module

public import proofs.«01_k».proof.Proof.Gen.Experts
public import proofs.«01_k».proof.Proof.Gen.ExpertsIdeal

@[expose] public section

noncomputable section

namespace Cert.Proof.Experts

open Idealize.ShloMosaic Idealize.ShloMosaic.TcCoe Idealize.SL.Sem

variable {F : FTy → Type} [FloatOps F]

/-- The bodies are the same. -/
theorem body_same : @Cert.Experts.cc0_experts F _ Cert.Experts.Gen.facts = @Cert.ExpertsIdeal.cc0_experts F _ Cert.ExpertsIdeal.Gen.facts := rfl

/-- So are the tables of bodies, label by label, -/
theorem defs0_same : @Cert.Experts.defs₀ F _ Cert.Experts.Gen.facts = @Cert.ExpertsIdeal.defs₀ F _ Cert.ExpertsIdeal.Gen.facts := by
  funext p l a
  match p, l, a with
  | .tc, ⟨0, _⟩, a => rfl
  | .tc, ⟨n + 1, h⟩, _ => exact absurd h (Nat.not_lt.2 (Nat.le_add_left _ _))
  | .scScalar _, l, a => rfl
  | .scVector _ _, l, a => rfl

/-- the tables with the call's pipeline, -/
theorem defs_same : @Cert.Experts.defs F _ Cert.Experts.Gen.facts = @Cert.ExpertsIdeal.defs F _ Cert.ExpertsIdeal.Gen.facts :=
  congrArg (fun D => Pipeline.defs (Cert.ExpertsIdeal.pcfgs (F := F)) D) defs0_same

/-- and the host programs. -/
theorem main_same : @Cert.Experts.main F _ Cert.Experts.Gen.facts = @Cert.ExpertsIdeal.main F _ Cert.ExpertsIdeal.Gen.facts := rfl

end Cert.Proof.Experts

end
-- ==== Proof.Experts.Claim.lean ====
/- Hand-written, untrusted: the experts' kernel computes its reference, and what its precondition gives the frames. -/
module

public import proofs.«01_k».proof.Defs
public import proofs.«01_k».proof.Proof.Experts.Final
public import proofs.«01_k».proof.Proof.Experts.Host
public import proofs.«01_k».proof.Proof.Experts.Ref
public import proofs.«01_k».proof.Proof.Experts.Same
public import proofs.«01_k».proof.Proof.Gen.ExpertsRefIdeal.Run
public import proofs.«01_k».proof.Proof.Gen.Pre_is_index

@[expose] public section

set_option maxRecDepth 16384

noncomputable section

namespace Cert.Proof.Experts

open Cert.ExpertsIdeal Cert.ExpertsIdeal.Gen Cert.ExpertsIdeal.Hand Idealize.ShloMosaic Idealize.ShloMosaic.TcCoe Idealize.SL.Sem

variable (m : (ℓ : Loc nD τ sig) → Buf (Elt Ideal) ℓ)

/-- What the call leaves is the reference's result of the same arrays. -/
theorem out_eq (hO : Ok m) (hw : ∀ i, 0 ≤ BitVec.toInt (tbl m 0 i)) (c : Dev nD) : (dats m hO 0 c).arrAt 4 (cfgM m hO).N
    = Cert.ExpertsRefIdeal.Read.val_main_v123 (F := Ideal) (m (c, Proc.tc.devRef main_arg0)) (m (c, Proc.tc.devRef main_arg1))
        (m (c, Proc.tc.devRef main_arg2)) (m (c, Proc.tc.devRef main_arg3)) (m (c, Proc.tc.devRef main_arg4)) := by
  refine (final m hO c hw).trans (funext fun j => ?_)
  obtain ⟨R, i, rfl⟩ : ∃ (R : Fin 73728) (i : Fin 1024), j = ix2 R i := ⟨j 0, j 1, by funext z; match z with | ⟨0, _⟩ => rfl | ⟨1, _⟩ => rfl⟩
  refine Eq.trans ?_ (Ref.v123 _ _ _ _ _ R i).symm
  have ht : tbl m 0 = m (c, Proc.tc.devRef main_arg0) := (V_pre m c 0).symm.trans (V_main_arg0 m c)
  have hx : (fun l : Fin 1024 => V m c main_arg1 (ix2 R l)) = fun l => m (c, Proc.tc.devRef main_arg1) (ix2 R l) :=
    funext fun l => congrFun (V_main_arg1 m c) _
  have hg : (fun (e : Fin 8) (l : Fin 1024) (f : Fin 1408) => V m c main_v0 (ix3 e l f)) = fun e l f => m (c, Proc.tc.devRef main_arg2) (ix3 e l f) :=
    funext fun e => funext fun l => funext fun f => v0 m c e l f
  have hu : (fun (e : Fin 8) (l : Fin 1024) (f : Fin 1408) => V m c main_v1 (ix3 e l f)) = fun e l f => m (c, Proc.tc.devRef main_arg3) (ix3 e l f) :=
    funext fun e => funext fun l => funext fun f => v1 m c e l f
  have hd : (fun (e : Fin 8) (f : Fin 1408) (l : Fin 1024) => V m c main_v2 (ix3 e f l)) = fun e f l => m (c, Proc.tc.devRef main_arg4) (ix3 e f l) :=
    funext fun e => funext fun f => funext fun l => v2 m c e f l
  show routed (tbl m 0 (ix1 ⟨R / 512, _⟩)) (fun l => V m c main_arg1 (ix2 R l)) (fun e l f => V m c main_v0 (ix3 e l f))
    (fun e l f => V m c main_v1 (ix3 e l f)) (fun e f l => V m c main_v2 (ix3 e f l)) i = _
  exact routed_congr i (congrFun ht _) hx hg hu hd

/-- The experts' run: the result at what the grid leaves, the arguments unchanged. -/
theorem run_blocks (ρ : Dev nD → PrngReg) (hO : Ok m) : θ_run defs (onTc (τ := τ) (main (F := Ideal))) ⟨m, fun _ => 0, ρ⟩ (fun r => ∀ c : Dev nD,
      r.2.mem ((c.tc : Thread nD τ).loc main_v3) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 4,
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) (run_main m ρ hO)

/-- The reference's result of equal arrays is equal. -/
theorem read_congr {x0 y0 : IVec S144 32} {x1 y1 : Vec Ideal S73728x1024 .f32} {x2 y2 x3 y3 : Vec Ideal S8x1024x1408 .f32} {x4 y4 : Vec Ideal S8x1408x1024 .f32}
    (h0 : x0 = y0) (h1 : x1 = y1) (h2 : x2 = y2) (h3 : x3 = y3) (h4 : x4 = y4) :
    Cert.ExpertsRefIdeal.Read.val_main_v123 (F := Ideal) x0 x1 x2 x3 x4 = Cert.ExpertsRefIdeal.Read.val_main_v123 (F := Ideal) y0 y1 y2 y3 y4 := by
  subst h0 h1 h2 h3 h4; rfl

/-- The kernel and the reference leave the same result, from any arguments whose table has no negative word. -/
theorem algebraic : Cert.algebraic_ExpertsIdeal_ExpertsRefIdeal (hExpertsIdeal := Cert.ExpertsIdeal.Gen.facts)
    (hExpertsRefIdeal := Cert.ExpertsRefIdeal.Gen.facts) (hPre_is_index := Cert.Pre_is_index.Gen.facts) := by
  intro m g m' g' hp hm
  have hw := words_nonneg (hp := Cert.Pre_is_index.Gen.facts) _ _ _ _ _ (hp 0)
  have hO := ok_of_words m hw
  refine ⟨fun c => (dats m hO 0 c).arrAt 4 (cfgM m hO).N, run_blocks m g hO, ?_⟩
  refine (θ_run _ _ _).mono (fun r h c => ⟨(h c).1.trans ?_, (h c).2⟩) (Cert.ExpertsRefIdeal.Value.run m' g')
  obtain ⟨e0, e1, e2, e3, e4⟩ := hm c
  refine Eq.trans (Cert.ExpertsRefIdeal.Read.val_main_v123_eq (StableHlo.launchContents m' c)) ?_
  refine Eq.trans ?_ (out_eq m hO (tbl_nonneg m hw) c).symm
  exact read_congr e0 e1 e2 e3 e4

/-- The kernel's frame: its text is the ideal program's, whose run holds for any float values. -/
theorem frame_k : Cert.quiescent_Experts (hExperts := Cert.Experts.Gen.facts) (hPre_is_index := Cert.Pre_is_index.Gen.facts) := by
  intro m ρ hp
  have h := Cert.ExpertsIdeal.Hand.frame (F := Bits) m ρ
    (ok_of_words m (words_nonneg (hp := Cert.Pre_is_index.Gen.facts) _ _ _ _ _ (hp 0)))
  rw [defs_same, main_same]
  exact h

/-- The frame of the kernel over the extended reals. -/
theorem frame_i : Cert.quiescent_ExpertsIdeal (hExpertsIdeal := Cert.ExpertsIdeal.Gen.facts) (hPre_is_index := Cert.Pre_is_index.Gen.facts) := fun m ρ hp =>
  Cert.ExpertsIdeal.Hand.frame m ρ (ok_of_words m (words_nonneg (hp := Cert.Pre_is_index.Gen.facts) _ _ _ _ _ (hp 0)))

/-- The reference runs and leaves its arguments; it declares no semaphore. -/
theorem frame_r : Cert.quiescent_ExpertsRefIdeal (hExpertsRefIdeal := Cert.ExpertsRefIdeal.Gen.facts) (hPre_is_index := Cert.Pre_is_index.Gen.facts) :=
  fun m ρ _ => (θ_run Cert.ExpertsRefIdeal.defs _ _).mono (fun r h => ⟨fun c => (h c).2, sem_eq_zero_of_no_sems (by decide) r.2⟩)
    (Cert.ExpertsRefIdeal.Value.run m ρ)

end Cert.Proof.Experts

end
-- ==== Proof.Diff.Spec.lean ====
/- Hand-written, untrusted: the plain mathematics both programs of the differential attention are read into, over the
   extended reals. Nothing here mentions a program. -/
module

public import Idealize.ShloMosaic.Lib.Pointwise

@[expose] public section

noncomputable section

namespace Cert.Proof.Diff

open Idealize.ShloMosaic

/-- The greatest score of a row, as the programs take it: a fold of `max` from the least value. -/
def top {n : ℕ} (s : Fin n → EReal) : EReal := Finset.univ.fold max (Ideal.ofBits .f32 0xFF800000#32) s

/-- One entry of the kernel's attention: the powers of two of the scores `s` below their greatest, weighing the values
    `v`, over the same powers weighing the ones `o`. -/
def krow {n : ℕ} (s v o : Fin n → EReal) : EReal :=
  Ideal.div (∑ x, Ideal.exp2 (s x - top s) * v x) (∑ x, Ideal.exp2 (s x - top s) * o x)

/-- One entry of softmax attention: the softmax of the scores `s`, weighing the values `v`. -/
def attend {n : ℕ} (s v : Fin n → EReal) : EReal :=
  ∑ x, Ideal.div (Ideal.exp (s x - top s)) (∑ y, Ideal.exp (s y - top s)) * v x

/-- A score: the product of a query's lanes and a key's. -/
def score {n : ℕ} (q k : Fin n → EReal) : EReal := ∑ l, q l * k l

/-- Entry `j` of the rms norm of a row `dif` of 128 lanes, times the gain `g` and the layer's factor. -/
def rmsOut (dif : Fin 128 → EReal) (g : EReal) (j : Fin 128) : EReal :=
  dif j * Ideal.rsqrt (Ideal.div (∑ l, dif l * dif l) (Ideal.ofBits .f32 0x43000000#32) + Ideal.ofBits .f32 0x358637BD#32) * g
    * Ideal.ofBits .f32 0x3F4CCCCD#32

/-- The weight of the second attention map, from the four vectors that make it. -/
def lamOf (l : Fin 4 → Fin 64 → EReal) : EReal :=
  Ideal.exp (∑ d, l 0 d * l 1 d) - Ideal.exp (∑ d, l 2 d * l 3 d) + Ideal.ofBits .f32 0x3E4CCCCD#32

/-- One entry of the kernel's output for a pair of heads: the two attention maps' difference, rms-normed. `q` is the pair
    of query rows, `k` the keys, `v` the values in lanes 0 to 127 and the ones in lane 128. -/
def headOut {n : ℕ} (q : Fin 2 → Fin 128 → EReal) (k : Fin n → Fin 128 → EReal) (v : Fin n → Fin 256 → EReal)
    (lam : EReal) (g : EReal) (j : Fin 128) : EReal :=
  rmsOut (fun l => krow (fun x => score (q 0) (k x)) (fun x => v x ⟨l, by omega⟩) (fun x => v x 128)
      - lam * krow (fun x => score (q 1) (k x)) (fun x => v x ⟨l, by omega⟩) (fun x => v x 128)) g j

end Cert.Proof.Diff

end
-- ==== Proof.Diff.Body.lean ====
/- Hand-written, untrusted: what the kernel's body stores for each of the four pairs of heads, read at an index, at both
   numbers of keys (256 for a tile of context queries, 4352 for a tile of latent queries). -/
module

public import proofs.«01_k».proof.Proof.Gen.KernelIdeal.Skeleton
public import proofs.«01_k».proof.Proof.Diff.Spec

@[expose] public section

set_option maxRecDepth 16384

noncomputable section

namespace Cert.Proof.Diff

open Cert.KernelIdeal Cert.KernelIdeal.Gen Idealize.ShloMosaic

/-- Pair 0 of heads, 256 keys. -/
theorem headA0 (q : Vec Ideal S1x2x256x128 .bf16) (k : Vec Ideal S256x128 .bf16) (v : Vec Ideal S256x256 .bf16) (lam : Vec Ideal S4x64 .f32)
    (g : Vec Ideal S1x128 .f32) (j : S1x256x128.Idx) :
    k0_pay15 (F := Ideal) (k0_pay14 (k0_pay1 lam) (k0_pay8 (k0_pay7 q k) v) g) j
      = headOut (fun a d => q (ix4 0 a (j 1) d)) (fun x d => k (ix2 x d)) (fun x d => v (ix2 x d)) (lamOf fun a d => lam (ix2 a d))
          (g (ix2 0 (j 2))) (j 2) := by
  idx_vars j
  have e0 : ∀ h, (⟨(256 + j1.val) / 256, h⟩ : Fin 2) = 1 := fun h => Fin.ext (by show (256 + j1.val) / 256 = 1; omega)
  have e1 : ∀ h, (⟨(256 + j1.val) % 256, h⟩ : Fin 256) = j1 := fun h => Fin.ext (by show (256 + j1.val) % 256 = _; omega)
  have e2 : ∀ h, (⟨(j1.val) / 256, h⟩ : Fin 2) = 0 := fun h => Fin.ext (by show (j1.val) / 256 = 0; omega)
  have e3 : ∀ h, (⟨(j1.val) % 256, h⟩ : Fin 256) = j1 := fun h => Fin.ext (by show (j1.val) % 256 = _; omega)
  pointwise [k0_pay15, k0_pay14, k0_pay1, k0_pay8, k0_pay7, e0, e1, e2, e3]
  rfl

/-- Pair 1 of heads, 256 keys. -/
theorem headA1 (q : Vec Ideal S1x2x256x128 .bf16) (k : Vec Ideal S256x128 .bf16) (v : Vec Ideal S256x256 .bf16) (lam : Vec Ideal S4x64 .f32)
    (g : Vec Ideal S1x128 .f32) (j : S1x256x128.Idx) :
    k0_pay16 (F := Ideal) (k0_pay1 lam) (k0_pay9 (k0_pay6 q k) v) g j
      = headOut (fun a d => q (ix4 0 a (j 1) d)) (fun x d => k (ix2 x d)) (fun x d => v (ix2 x d)) (lamOf fun a d => lam (ix2 a d))
          (g (ix2 0 (j 2))) (j 2) := by
  idx_vars j
  have e0 : ∀ h, (⟨(256 + j1.val) / 256, h⟩ : Fin 2) = 1 := fun h => Fin.ext (by show (256 + j1.val) / 256 = 1; omega)
  have e1 : ∀ h, (⟨(256 + j1.val) % 256, h⟩ : Fin 256) = j1 := fun h => Fin.ext (by show (256 + j1.val) % 256 = _; omega)
  have e2 : ∀ h, (⟨(j1.val) / 256, h⟩ : Fin 2) = 0 := fun h => Fin.ext (by show (j1.val) / 256 = 0; omega)
  have e3 : ∀ h, (⟨(j1.val) % 256, h⟩ : Fin 256) = j1 := fun h => Fin.ext (by show (j1.val) % 256 = _; omega)
  pointwise [k0_pay16, k0_pay1, k0_pay9, k0_pay6, e0, e1, e2, e3]
  rfl

/-- Pair 2 of heads, 256 keys. -/
theorem headA2 (q : Vec Ideal S1x2x256x128 .bf16) (k : Vec Ideal S256x128 .bf16) (v : Vec Ideal S256x256 .bf16) (lam : Vec Ideal S4x64 .f32)
    (g : Vec Ideal S1x128 .f32) (j : S1x256x128.Idx) :
    k0_pay18 (F := Ideal) (k0_pay17 (k0_pay1 lam) (k0_pay12 (k0_pay11 (k0_pay4 q) k) v)) g j
      = headOut (fun a d => q (ix4 0 a (j 1) d)) (fun x d => k (ix2 x d)) (fun x d => v (ix2 x d)) (lamOf fun a d => lam (ix2 a d))
          (g (ix2 0 (j 2))) (j 2) := by
  idx_vars j
  have e0 : ∀ h, (⟨(256 + j1.val) / 256, h⟩ : Fin 2) = 1 := fun h => Fin.ext (by show (256 + j1.val) / 256 = 1; omega)
  have e1 : ∀ h, (⟨(256 + j1.val) % 256, h⟩ : Fin 256) = j1 := fun h => Fin.ext (by show (256 + j1.val) % 256 = _; omega)
  have e2 : ∀ h, (⟨(j1.val) / 256, h⟩ : Fin 2) = 0 := fun h => Fin.ext (by show (j1.val) / 256 = 0; omega)
  have e3 : ∀ h, (⟨(j1.val) % 256, h⟩ : Fin 256) = j1 := fun h => Fin.ext (by show (j1.val) % 256 = _; omega)
  pointwise [k0_pay18, k0_pay17, k0_pay1, k0_pay12, k0_pay11, k0_pay4, e0, e1, e2, e3]
  rfl

/-- Pair 3 of heads, 256 keys. -/
theorem headA3 (q : Vec Ideal S1x2x256x128 .bf16) (k : Vec Ideal S256x128 .bf16) (v : Vec Ideal S256x256 .bf16) (lam : Vec Ideal S4x64 .f32)
    (g : Vec Ideal S1x128 .f32) (j : S1x256x128.Idx) :
    k0_pay2 (F := Ideal) (k0_pay19 (k0_pay1 lam) (k0_pay13 (k0_pay10 (k0_pay5 q) k) v) g) j
      = headOut (fun a d => q (ix4 0 a (j 1) d)) (fun x d => k (ix2 x d)) (fun x d => v (ix2 x d)) (lamOf fun a d => lam (ix2 a d))
          (g (ix2 0 (j 2))) (j 2) := by
  idx_vars j
  have e0 : ∀ h, (⟨(256 + j1.val) / 256, h⟩ : Fin 2) = 1 := fun h => Fin.ext (by show (256 + j1.val) / 256 = 1; omega)
  have e1 : ∀ h, (⟨(256 + j1.val) % 256, h⟩ : Fin 256) = j1 := fun h => Fin.ext (by show (256 + j1.val) % 256 = _; omega)
  have e2 : ∀ h, (⟨(j1.val) / 256, h⟩ : Fin 2) = 0 := fun h => Fin.ext (by show (j1.val) / 256 = 0; omega)
  have e3 : ∀ h, (⟨(j1.val) % 256, h⟩ : Fin 256) = j1 := fun h => Fin.ext (by show (j1.val) % 256 = _; omega)
  pointwise [k0_pay2, k0_pay19, k0_pay1, k0_pay13, k0_pay10, k0_pay5, e0, e1, e2, e3]
  rfl

/-- Pair 0 of heads, 4352 keys. -/
theorem headB0 (q : Vec Ideal S1x2x256x128 .bf16) (k : Vec Ideal S4352x128 .bf16) (v : Vec Ideal S4352x256 .bf16) (lam : Vec Ideal S4x64 .f32)
    (g : Vec Ideal S1x128 .f32) (j : S1x256x128.Idx) :
    k0_pay31 (F := Ideal) (k0_pay30 (k0_pay1 lam) (k0_pay24 (k0_pay23 q k) v) g) j
      = headOut (fun a d => q (ix4 0 a (j 1) d)) (fun x d => k (ix2 x d)) (fun x d => v (ix2 x d)) (lamOf fun a d => lam (ix2 a d))
          (g (ix2 0 (j 2))) (j 2) := by
  idx_vars j
  have e0 : ∀ h, (⟨(256 + j1.val) / 256, h⟩ : Fin 2) = 1 := fun h => Fin.ext (by show (256 + j1.val) / 256 = 1; omega)
  have e1 : ∀ h, (⟨(256 + j1.val) % 256, h⟩ : Fin 256) = j1 := fun h => Fin.ext (by show (256 + j1.val) % 256 = _; omega)
  have e2 : ∀ h, (⟨(j1.val) / 256, h⟩ : Fin 2) = 0 := fun h => Fin.ext (by show (j1.val) / 256 = 0; omega)
  have e3 : ∀ h, (⟨(j1.val) % 256, h⟩ : Fin 256) = j1 := fun h => Fin.ext (by show (j1.val) % 256 = _; omega)
  pointwise [k0_pay31, k0_pay30, k0_pay1, k0_pay24, k0_pay23, e0, e1, e2, e3]
  rfl

/-- Pair 1 of heads, 4352 keys. -/
theorem headB1 (q : Vec Ideal S1x2x256x128 .bf16) (k : Vec Ideal S4352x128 .bf16) (v : Vec Ideal S4352x256 .bf16) (lam : Vec Ideal S4x64 .f32)
    (g : Vec Ideal S1x128 .f32) (j : S1x256x128.Idx) :
    k0_pay32 (F := Ideal) (k0_pay1 lam) (k0_pay25 (k0_pay22 q k) v) g j
      = headOut (fun a d => q (ix4 0 a (j 1) d)) (fun x d => k (ix2 x d)) (fun x d => v (ix2 x d)) (lamOf fun a d => lam (ix2 a d))
          (g (ix2 0 (j 2))) (j 2) := by
  idx_vars j
  have e0 : ∀ h, (⟨(256 + j1.val) / 256, h⟩ : Fin 2) = 1 := fun h => Fin.ext (by show (256 + j1.val) / 256 = 1; omega)
  have e1 : ∀ h, (⟨(256 + j1.val) % 256, h⟩ : Fin 256) = j1 := fun h => Fin.ext (by show (256 + j1.val) % 256 = _; omega)
  have e2 : ∀ h, (⟨(j1.val) / 256, h⟩ : Fin 2) = 0 := fun h => Fin.ext (by show (j1.val) / 256 = 0; omega)
  have e3 : ∀ h, (⟨(j1.val) % 256, h⟩ : Fin 256) = j1 := fun h => Fin.ext (by show (j1.val) % 256 = _; omega)
  pointwise [k0_pay32, k0_pay1, k0_pay25, k0_pay22, e0, e1, e2, e3]
  rfl

/-- Pair 2 of heads, 4352 keys. -/
theorem headB2 (q : Vec Ideal S1x2x256x128 .bf16) (k : Vec Ideal S4352x128 .bf16) (v : Vec Ideal S4352x256 .bf16) (lam : Vec Ideal S4x64 .f32)
    (g : Vec Ideal S1x128 .f32) (j : S1x256x128.Idx) :
    k0_pay34 (F := Ideal) (k0_pay33 (k0_pay1 lam) (k0_pay28 (k0_pay27 (k0_pay20 q) k) v)) g j
      = headOut (fun a d => q (ix4 0 a (j 1) d)) (fun x d => k (ix2 x d)) (fun x d => v (ix2 x d)) (lamOf fun a d => lam (ix2 a d))
          (g (ix2 0 (j 2))) (j 2) := by
  idx_vars j
  have e0 : ∀ h, (⟨(256 + j1.val) / 256, h⟩ : Fin 2) = 1 := fun h => Fin.ext (by show (256 + j1.val) / 256 = 1; omega)
  have e1 : ∀ h, (⟨(256 + j1.val) % 256, h⟩ : Fin 256) = j1 := fun h => Fin.ext (by show (256 + j1.val) % 256 = _; omega)
  have e2 : ∀ h, (⟨(j1.val) / 256, h⟩ : Fin 2) = 0 := fun h => Fin.ext (by show (j1.val) / 256 = 0; omega)
  have e3 : ∀ h, (⟨(j1.val) % 256, h⟩ : Fin 256) = j1 := fun h => Fin.ext (by show (j1.val) % 256 = _; omega)
  pointwise [k0_pay34, k0_pay33, k0_pay1, k0_pay28, k0_pay27, k0_pay20, e0, e1, e2, e3]
  rfl

/-- Pair 3 of heads, 4352 keys. -/
theorem headB3 (q : Vec Ideal S1x2x256x128 .bf16) (k : Vec Ideal S4352x128 .bf16) (v : Vec Ideal S4352x256 .bf16) (lam : Vec Ideal S4x64 .f32)
    (g : Vec Ideal S1x128 .f32) (j : S1x256x128.Idx) :
    k0_pay3 (F := Ideal) (k0_pay35 (k0_pay1 lam) (k0_pay29 (k0_pay26 (k0_pay21 q) k) v) g) j
      = headOut (fun a d => q (ix4 0 a (j 1) d)) (fun x d => k (ix2 x d)) (fun x d => v (ix2 x d)) (lamOf fun a d => lam (ix2 a d))
          (g (ix2 0 (j 2))) (j 2) := by
  idx_vars j
  have e0 : ∀ h, (⟨(256 + j1.val) / 256, h⟩ : Fin 2) = 1 := fun h => Fin.ext (by show (256 + j1.val) / 256 = 1; omega)
  have e1 : ∀ h, (⟨(256 + j1.val) % 256, h⟩ : Fin 256) = j1 := fun h => Fin.ext (by show (256 + j1.val) % 256 = _; omega)
  have e2 : ∀ h, (⟨(j1.val) / 256, h⟩ : Fin 2) = 0 := fun h => Fin.ext (by show (j1.val) / 256 = 0; omega)
  have e3 : ∀ h, (⟨(j1.val) % 256, h⟩ : Fin 256) = j1 := fun h => Fin.ext (by show (j1.val) % 256 = _; omega)
  pointwise [k0_pay3, k0_pay35, k0_pay1, k0_pay29, k0_pay26, k0_pay21, e0, e1, e2, e3]
  rfl

end Cert.Proof.Diff

end
-- ==== Proof.Diff.Final.lean ====
/- Hand-written, untrusted: the kernel's result array as one function of the five arrays its call is given. -/
module

public import proofs.«01_k».proof.Proof.Gen.KernelIdeal.Value
public import proofs.«01_k».proof.Proof.Diff.Body
public import Idealize.ShloMosaic.Lib.Pipeline.ValueKit
public import Idealize.ShloMosaic.Lib.ValueLayout

@[expose] public section

set_option maxRecDepth 16384

noncomputable section

namespace Cert.Proof.Diff

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- The result at batch `b`, token `t`, column `h·128 + j`, from the arrays the call is given: over the first 256 keys
    for a context token, over all keys for a latent one. -/
def outAt (q : Vec Ideal S8x8x4352x128 .bf16) (k : Vec Ideal S8x4x4352x128 .bf16) (v : Vec Ideal S8x4x4352x256 .bf16)
    (lam : Vec Ideal S4x64 .f32) (g : Vec Ideal S1x128 .f32) (b : Fin 8) (t : Fin 4352) (h : Fin 4) (j : Fin 128) : EReal :=
  if t.val < 256 then
    headOut (n := 256) (fun a d => q (ix4 b ⟨2 * h + a, by omega⟩ t d)) (fun x d => k (ix4 b h ⟨x, by omega⟩ d))
      (fun x d => v (ix4 b h ⟨x, by omega⟩ d)) (lamOf fun a d => lam (ix2 a d)) (g (ix2 0 j)) j
  else
    headOut (fun a d => q (ix4 b ⟨2 * h + a, by omega⟩ t d)) (fun x d => k (ix4 b h x d))
      (fun x d => v (ix4 b h x d)) (lamOf fun a d => lam (ix2 a d)) (g (ix2 0 j)) j

/-- The result array. -/
def outOf (q : Vec Ideal S8x8x4352x128 .bf16) (k : Vec Ideal S8x4x4352x128 .bf16) (v : Vec Ideal S8x4x4352x256 .bf16)
    (lam : Vec Ideal S4x64 .f32) (g : Vec Ideal S1x128 .f32) : Vec Ideal S8x4352x512 .bf16 := fun i =>
  outAt q k v lam g (i 0) (i 1) ⟨(i 2).val / 128, by have := (i 2).isLt; change _ < 512 at this; omega⟩
    ⟨(i 2).val % 128, Nat.mod_lt _ (by decide)⟩

/-- The windows' block indices at a grid point. -/
theorem idx : ∀ t : Fin cfg0.N, win0_0.index t = ![t.val / 17, 0, t.val % 17, 0] ∧ win0_1.index t = ![t.val / 17, 0, 0, 0]
    ∧ win0_2.index t = ![t.val / 17, 0, 0, 0] ∧ win0_3.index t = ![0, 0] ∧ win0_4.index t = ![0, 0]
    ∧ win0_5.index t = ![t.val / 17, t.val % 17, 0] :=
  (by decide +kernel : ∀ t : Fin grid0.N, _)

theorem pt (t : Fin cfg0.N) : t.val / 17 < 8 ∧ t.val % 17 < 17 := by
  have := t.isLt; change _ < 136 at this; omega

/-- A block of the queries' array at a grid point, entry by entry. -/
theorem blk0 (t : Fin cfg0.N) (Z : Vec Ideal S8x8x4352x128 .bf16) (a : Fin 1) (h : Fin 8) (r : Fin 256) (d : Fin 128) :
    View.read (Elt Ideal) ((cfg0.win 0).blk t).view Z (ix4 a h r d)
      = Z (ix4 ⟨t.val / 17, (pt t).1⟩ h ⟨t.val % 17 * 256 + r, by have := (pt t).2; omega⟩ d) := by
  have i := (idx t).1
  have e0 : win0_0.index t (0 : Fin 4) = t.val / 17 := congrFun i (0 : Fin 4)
  have e1 : win0_0.index t (1 : Fin 4) = 0 := congrFun i (1 : Fin 4)
  have e2 : win0_0.index t (2 : Fin 4) = t.val % 17 := congrFun i (2 : Fin 4)
  have e3 : win0_0.index t (3 : Fin 4) = 0 := congrFun i (3 : Fin 4)
  change Z (((cfg0.win 0).blk t).view.emb (ix4 a h r d)) = _
  refine congrArg Z (funext fun z => Fin.ext ?_)
  match z with
  | ⟨0, _⟩ => show win0_0.index t (0 : Fin 4) * 1 + 1 * a.val = t.val / 17; omega
  | ⟨1, _⟩ => show win0_0.index t (1 : Fin 4) * 8 + 1 * h.val = h.val; omega
  | ⟨2, _⟩ => show win0_0.index t (2 : Fin 4) * 256 + 1 * r.val = t.val % 17 * 256 + r.val; omega
  | ⟨3, _⟩ => show win0_0.index t (3 : Fin 4) * 128 + 1 * d.val = d.val; omega

theorem iblk0 (c : Dev nD) (t : Fin cfg0.N) (a : Fin 1) (h : Fin 8) (r : Fin 256) (d : Fin 128) :
    iblk m c 0 t (ix4 a h r d) = V m c main_v16 (ix4 ⟨t.val / 17, (pt t).1⟩ h ⟨t.val % 17 * 256 + r, by have := (pt t).2; omega⟩ d) := blk0 t _ a h r d

/-- A block of the keys' array at a grid point, entry by entry. -/
theorem blk1 (t : Fin cfg0.N) (Z : Vec Ideal S8x4x4352x128 .bf16) (a : Fin 1) (h : Fin 4) (r : Fin 4352) (d : Fin 128) :
    View.read (Elt Ideal) ((cfg0.win 1).blk t).view Z (ix4 a h r d)
      = Z (ix4 ⟨t.val / 17, (pt t).1⟩ h r d) := by
  have i := (idx t).2.1
  have e0 : win0_1.index t (0 : Fin 4) = t.val / 17 := congrFun i (0 : Fin 4)
  have e1 : win0_1.index t (1 : Fin 4) = 0 := congrFun i (1 : Fin 4)
  have e2 : win0_1.index t (2 : Fin 4) = 0 := congrFun i (2 : Fin 4)
  have e3 : win0_1.index t (3 : Fin 4) = 0 := congrFun i (3 : Fin 4)
  change Z (((cfg0.win 1).blk t).view.emb (ix4 a h r d)) = _
  refine congrArg Z (funext fun z => Fin.ext ?_)
  match z with
  | ⟨0, _⟩ => show win0_1.index t (0 : Fin 4) * 1 + 1 * a.val = t.val / 17; omega
  | ⟨1, _⟩ => show win0_1.index t (1 : Fin 4) * 4 + 1 * h.val = h.val; omega
  | ⟨2, _⟩ => show win0_1.index t (2 : Fin 4) * 4352 + 1 * r.val = r.val; omega
  | ⟨3, _⟩ => show win0_1.index t (3 : Fin 4) * 128 + 1 * d.val = d.val; omega

theorem iblk1 (c : Dev nD) (t : Fin cfg0.N) (a : Fin 1) (h : Fin 4) (r : Fin 4352) (d : Fin 128) :
    iblk m c 1 t (ix4 a h r d) = V m c main_v19 (ix4 ⟨t.val / 17, (pt t).1⟩ h r d) := blk1 t _ a h r d

/-- A block of the values' array at a grid point, entry by entry. -/
theorem blk2 (t : Fin cfg0.N) (Z : Vec Ideal S8x4x4352x256 .bf16) (a : Fin 1) (h : Fin 4) (r : Fin 4352) (d : Fin 256) :
    View.read (Elt Ideal) ((cfg0.win 2).blk t).view Z (ix4 a h r d)
      = Z (ix4 ⟨t.val / 17, (pt t).1⟩ h r d) := by
  have i := (idx t).2.2.1
  have e0 : win0_2.index t (0 : Fin 4) = t.val / 17 := congrFun i (0 : Fin 4)
  have e1 : win0_2.index t (1 : Fin 4) = 0 := congrFun i (1 : Fin 4)
  have e2 : win0_2.index t (2 : Fin 4) = 0 := congrFun i (2 : Fin 4)
  have e3 : win0_2.index t (3 : Fin 4) = 0 := congrFun i (3 : Fin 4)
  change Z (((cfg0.win 2).blk t).view.emb (ix4 a h r d)) = _
  refine congrArg Z (funext fun z => Fin.ext ?_)
  match z with
  | ⟨0, _⟩ => show win0_2.index t (0 : Fin 4) * 1 + 1 * a.val = t.val / 17; omega
  | ⟨1, _⟩ => show win0_2.index t (1 : Fin 4) * 4 + 1 * h.val = h.val; omega
  | ⟨2, _⟩ => show win0_2.index t (2 : Fin 4) * 4352 + 1 * r.val = r.val; omega
  | ⟨3, _⟩ => show win0_2.index t (3 : Fin 4) * 256 + 1 * d.val = d.val; omega

theorem iblk2 (c : Dev nD) (t : Fin cfg0.N) (a : Fin 1) (h : Fin 4) (r : Fin 4352) (d : Fin 256) :
    iblk m c 2 t (ix4 a h r d) = V m c main_v24 (ix4 ⟨t.val / 17, (pt t).1⟩ h r d) := blk2 t _ a h r d

/-- A block of the four λ vectors' array at a grid point, entry by entry. -/
theorem blk3 (t : Fin cfg0.N) (Z : Vec Ideal S4x64 .f32) (a : Fin 4) (b : Fin 64) :
    View.read (Elt Ideal) ((cfg0.win 3).blk t).view Z (ix2 a b)
      = Z (ix2 a b) := by
  have i := (idx t).2.2.2.1
  have e0 : win0_3.index t (0 : Fin 2) = 0 := congrFun i (0 : Fin 2)
  have e1 : win0_3.index t (1 : Fin 2) = 0 := congrFun i (1 : Fin 2)
  change Z (((cfg0.win 3).blk t).view.emb (ix2 a b)) = _
  refine congrArg Z (funext fun z => Fin.ext ?_)
  match z with
  | ⟨0, _⟩ => show win0_3.index t (0 : Fin 2) * 4 + 1 * a.val = a.val; omega
  | ⟨1, _⟩ => show win0_3.index t (1 : Fin 2) * 64 + 1 * b.val = b.val; omega

theorem iblk3 (c : Dev nD) (t : Fin cfg0.N) (a : Fin 4) (b : Fin 64) :
    iblk m c 3 t (ix2 a b) = V m c main_v29 (ix2 a b) := blk3 t _ a b

/-- A block of the gain' array at a grid point, entry by entry. -/
theorem blk4 (t : Fin cfg0.N) (Z : Vec Ideal S1x128 .f32) (a : Fin 1) (b : Fin 128) :
    View.read (Elt Ideal) ((cfg0.win 4).blk t).view Z (ix2 a b)
      = Z (ix2 a b) := by
  have i := (idx t).2.2.2.2.1
  have e0 : win0_4.index t (0 : Fin 2) = 0 := congrFun i (0 : Fin 2)
  have e1 : win0_4.index t (1 : Fin 2) = 0 := congrFun i (1 : Fin 2)
  change Z (((cfg0.win 4).blk t).view.emb (ix2 a b)) = _
  refine congrArg Z (funext fun z => Fin.ext ?_)
  match z with
  | ⟨0, _⟩ => show win0_4.index t (0 : Fin 2) * 1 + 1 * a.val = a.val; omega
  | ⟨1, _⟩ => show win0_4.index t (1 : Fin 2) * 128 + 1 * b.val = b.val; omega

theorem iblk4 (c : Dev nD) (t : Fin cfg0.N) (a : Fin 1) (b : Fin 128) :
    iblk m c 4 t (ix2 a b) = V m c main_v30 (ix2 a b) := blk4 t _ a b

/-- The keys of one head, read through its slice of the staging buffer. -/
theorem readSlab {n l : ℕ} (M : Memref sig .tc .vmem ⟨4, ![1, 4, n, l]⟩ .bf16) (hM : M.IsWhole)
    (X : Vec Ideal ⟨4, ![1, 4, n, l]⟩ .bf16) (h : Fin 4)
    (inb) (hr : (⟨2, ![n, l]⟩ : Shape).numel = (⟨4, ![1, 1, n, l]⟩ : Shape).numel) (x : Fin n) (d : Fin l) :
    View.read (Elt Ideal) ((M.view.slice (Rect.unit (s := ⟨4, ![1, 4, n, l]⟩) ![0, h.val, 0, 0] ![1, 1, n, l] inb)).reshape ⟨2, ![n, l]⟩ hr)
      (hM.unread X) (ix2 x d) = X (ix4 0 h x d) := by
  have e := congrFun (hM.read_unread X)
    ((Rect.unit (s := ⟨4, ![1, 4, n, l]⟩) ![0, h.val, 0, 0] ![1, 1, n, l] inb).emb (Shape.reshapeEquiv hr (ix2 x d)))
  refine Eq.trans (b := View.read (Elt Ideal) M.view (hM.unread X)
    ((Rect.unit (s := ⟨4, ![1, 4, n, l]⟩) ![0, h.val, 0, 0] ![1, 1, n, l] inb).emb (Shape.reshapeEquiv hr (ix2 x d)))) rfl ?_
  rw [e, show Shape.reshapeEquiv hr (ix2 x d) = ix4 (0 : Fin 1) (0 : Fin 1) x d from ValueIdx.reshapeEquiv_ix2_11ab hr x d]
  refine congrArg X (funext fun z => Fin.ext ?_)
  match z with
  | ⟨0, _⟩ => rfl
  | ⟨1, _⟩ => show h.val + 1 * 0 = h.val; omega
  | ⟨2, _⟩ => show 0 + 1 * x.val = x.val; omega
  | ⟨3, _⟩ => show 0 + 1 * d.val = d.val; omega

/-- Two rows of a block of the queries. -/
theorem ldQ (X : Vec Ideal S1x8x256x128 .bf16) (h : Fin 4) (inb) (a : Fin 2) (r : Fin 256) (d : Fin 128) :
    View.ld X (Rect.unit (s := S1x8x256x128) ![0, 2 * h.val, 0, 0] ![1, 2, 256, 128] inb) (ix4 0 a r d)
      = X (ix4 0 ⟨2 * h + a, by omega⟩ r d) := by
  refine congrArg X (funext fun z => Fin.ext ?_)
  match z with
  | ⟨0, _⟩ => rfl
  | ⟨1, _⟩ => show 2 * h.val + 1 * a.val = 2 * h + a.val; omega
  | ⟨2, _⟩ => show 0 + 1 * r.val = r.val; omega
  | ⟨3, _⟩ => show 0 + 1 * d.val = d.val; omega

/-- The first rows of a slab. -/
theorem ldRows {n l k : ℕ} (X : Vec Ideal ⟨2, ![n, l]⟩ .bf16) (inb) (hk : k ≤ n) (x : Fin k) (d : Fin l) :
    View.ld X (Rect.unit (s := ⟨2, ![n, l]⟩) ![0, 0] ![k, l] inb) (ix2 x d) = X (ix2 ⟨x, by omega⟩ d) := by
  refine congrArg X (funext fun z => Fin.ext ?_)
  match z with
  | ⟨0, _⟩ => show 0 + 1 * x.val = x.val; omega
  | ⟨1, _⟩ => show 0 + 1 * d.val = d.val; omega

/-- The place of a block's entry in the result array. -/
theorem place (q : Vec Ideal S8x8x4352x128 .bf16) (k : Vec Ideal S8x4x4352x128 .bf16) (v : Vec Ideal S8x4x4352x256 .bf16)
    (lam : Vec Ideal S4x64 .f32) (g : Vec Ideal S1x128 .f32) (t : Fin cfg0.N) (h : Fin 4) (y : S1x256x512.Idx)
    (x1 : Fin 256) (x2 : Fin 128) (h1 : (y 1).val = x1.val) (h2 : (y 2).val = 128 * h.val + x2.val) :
    outAt q k v lam g ⟨t.val / 17, (pt t).1⟩ ⟨t.val % 17 * 256 + x1, by have := (pt t).2; omega⟩ h x2
      = outOf q k v lam g (((View.whole main_v31).slice (win0_5.rect t)).emb y) := by
  have i := (idx t).2.2.2.2.2
  have e0 : win0_5.index t (0 : Fin 3) = t.val / 17 := congrFun i (0 : Fin 3)
  have e1 : win0_5.index t (1 : Fin 3) = t.val % 17 := congrFun i (1 : Fin 3)
  have e2 : win0_5.index t (2 : Fin 3) = 0 := congrFun i (2 : Fin 3)
  have hy : (y 0).val < 1 := (y 0).isLt
  have e : ((View.whole main_v31).slice (win0_5.rect t)).emb y
      = ix3 (⟨t.val / 17, (pt t).1⟩ : Fin 8) (⟨t.val % 17 * 256 + x1, by have := (pt t).2; omega⟩ : Fin 4352)
        (⟨128 * h.val + x2, by omega⟩ : Fin 512) := by
    refine funext fun z => Fin.ext ?_
    match z with
    | ⟨0, _⟩ => show win0_5.index t (0 : Fin 3) * 1 + 1 * (y 0).val = t.val / 17; omega
    | ⟨1, _⟩ => show win0_5.index t (1 : Fin 3) * 256 + 1 * (y 1).val = t.val % 17 * 256 + x1; omega
    | ⟨2, _⟩ => show win0_5.index t (2 : Fin 3) * 512 + 1 * (y 2).val = 128 * h.val + x2; omega
  rw [e]
  show _ = outAt q k v lam g ⟨t.val / 17, _⟩ ⟨t.val % 17 * 256 + x1, _⟩ ⟨(128 * h.val + x2) / 128, _⟩ ⟨(128 * h.val + x2) % 128, _⟩
  congr 1
  · exact Fin.ext (by show h.val = (128 * h.val + x2) / 128; omega)
  · exact Fin.ext (by show x2.val = (128 * h.val + x2) % 128; omega)

/-- The output of equal arrays is equal. -/
theorem headOut_congr {n : ℕ} {q q' : Fin 2 → Fin 128 → EReal} {k k' : Fin n → Fin 128 → EReal} {v v' : Fin n → Fin 256 → EReal}
    {lam lam' g g' : EReal} (j : Fin 128) (hq : q = q') (hk : k = k') (hv : v = v') (hl : lam = lam') (hg : g = g') :
    headOut q k v lam g j = headOut q' k' v' lam' g' j := by
  subst hq hk hv hl hg; rfl

/-- A context tile's entry, read out of its blocks, is the result's. -/
theorem pieceA (c : Dev nD) (t : Fin cfg0.N) (h0 : t.val % 17 = 0) (h : Fin 4) (inb0 inb1 hr1 inb1' inb2 hr2 inb2')
    (x1 : Fin 256) (x2 : Fin 128) :
    headOut (fun a d => View.ld (iblk m c 0 t) (Rect.unit (s := S1x8x256x128) ![0, 2 * h.val, 0, 0] ![1, 2, 256, 128] inb0) (ix4 0 a x1 d))
      (fun x d => View.ld (View.read (Elt Ideal) (((ms0_1 t).view.slice
          (Rect.unit (s := S1x4x4352x128) ![0, h.val, 0, 0] ![1, 1, 4352, 128] inb1)).reshape S4352x128 hr1) ((hs0_1 t).unread (iblk m c 1 t)))
          (Rect.unit (s := S4352x128) ![0, 0] ![256, 128] inb1') (ix2 x d))
      (fun x d => View.ld (View.read (Elt Ideal) (((ms0_2 t).view.slice
          (Rect.unit (s := S1x4x4352x256) ![0, h.val, 0, 0] ![1, 1, 4352, 256] inb2)).reshape S4352x256 hr2) ((hs0_2 t).unread (iblk m c 2 t)))
          (Rect.unit (s := S4352x256) ![0, 0] ![256, 256] inb2') (ix2 x d))
      (lamOf fun a d => iblk m c 3 t (ix2 a d)) (iblk m c 4 t (ix2 0 x2)) x2
    = outAt (V m c main_v16) (V m c main_v19) (V m c main_v24) (V m c main_v29) (V m c main_v30)
        ⟨t.val / 17, (pt t).1⟩ ⟨t.val % 17 * 256 + x1, by have := (pt t).2; omega⟩ h x2 := by
  unfold outAt
  rw [if_pos (by show t.val % 17 * 256 + x1.val < 256; omega)]
  refine headOut_congr x2 ?_ ?_ ?_ ?_ ?_
  · funext a d; exact (ldQ _ h inb0 a x1 d).trans (iblk0 m c t _ _ _ _)
  · funext x d
    exact (ldRows (k := 256) _ inb1' (by norm_num) x d).trans
      ((readSlab (n := 4352) (l := 128) (ms0_1 t) (hs0_1 t) (iblk m c 1 t) h inb1 hr1 _ d).trans (iblk1 m c t _ _ _ _))
  · funext x d
    exact (ldRows (k := 256) _ inb2' (by norm_num) x d).trans
      ((readSlab (n := 4352) (l := 256) (ms0_2 t) (hs0_2 t) (iblk m c 2 t) h inb2 hr2 _ d).trans (iblk2 m c t _ _ _ _))
  · exact congrArg lamOf (funext fun a => funext fun d => iblk3 m c t a d)
  · exact iblk4 m c t 0 x2

/-- A latent tile's entry, read out of its blocks, is the result's. -/
theorem pieceB (c : Dev nD) (t : Fin cfg0.N) (h0 : ¬t.val % 17 = 0) (h : Fin 4) (inb0 inb1 hr1 inb2 hr2)
    (x1 : Fin 256) (x2 : Fin 128) :
    headOut (fun a d => View.ld (iblk m c 0 t) (Rect.unit (s := S1x8x256x128) ![0, 2 * h.val, 0, 0] ![1, 2, 256, 128] inb0) (ix4 0 a x1 d))
      (fun x d => View.read (Elt Ideal) (((ms0_1 t).view.slice
          (Rect.unit (s := S1x4x4352x128) ![0, h.val, 0, 0] ![1, 1, 4352, 128] inb1)).reshape S4352x128 hr1) ((hs0_1 t).unread (iblk m c 1 t)) (ix2 x d))
      (fun x d => View.read (Elt Ideal) (((ms0_2 t).view.slice
          (Rect.unit (s := S1x4x4352x256) ![0, h.val, 0, 0] ![1, 1, 4352, 256] inb2)).reshape S4352x256 hr2) ((hs0_2 t).unread (iblk m c 2 t)) (ix2 x d))
      (lamOf fun a d => iblk m c 3 t (ix2 a d)) (iblk m c 4 t (ix2 0 x2)) x2
    = outAt (V m c main_v16) (V m c main_v19) (V m c main_v24) (V m c main_v29) (V m c main_v30)
        ⟨t.val / 17, (pt t).1⟩ ⟨t.val % 17 * 256 + x1, by have := (pt t).2; omega⟩ h x2 := by
  unfold outAt
  rw [if_neg (by show ¬t.val % 17 * 256 + x1.val < 256; omega)]
  refine headOut_congr x2 ?_ ?_ ?_ ?_ ?_
  · funext a d; exact (ldQ _ h inb0 a x1 d).trans (iblk0 m c t _ _ _ _)
  · funext x d
    exact (readSlab (n := 4352) (l := 128) (ms0_1 t) (hs0_1 t) (iblk m c 1 t) h inb1 hr1 _ d).trans (iblk1 m c t _ _ _ _)
  · funext x d
    exact (readSlab (n := 4352) (l := 256) (ms0_2 t) (hs0_2 t) (iblk m c 2 t) h inb2 hr2 _ d).trans (iblk2 m c t _ _ _ _)
  · exact congrArg lamOf (funext fun a => funext fun d => iblk3 m c t a d)
  · exact iblk4 m c t 0 x2

set_option maxHeartbeats 2000000 in
/-- The result array the grid leaves, as one function of the five arrays. -/
theorem final (c : Dev nD) : (dats (F := Ideal) m 0 c).arrAt 5 cfg0.N
    = outOf (V m c main_v16) (V m c main_v19) (V m c main_v24) (V m c main_v29) (V m c main_v30) := by
  refine (dats m 0 c).arrAt_eq_of_covers 5 _ (by decide +kernel) fun t hf y => ?_
  blk_simp
  rw [after0_5]
  by_cases ht : t.val % 17 = 0
  · rw [outsAt0_A m c t ht (by omega)]
    frame_out
    canon_tiles x h
    case piece0 =>
      exact (headA3 _ _ _ _ _ _).trans ((pieceA m c t ht 3 _ _ _ _ _ _ _ (x 1) (x 2)).trans (place _ _ _ _ _ t 3 y (x 1) (x 2) h1 h2))
    case piece1 =>
      exact (headA2 _ _ _ _ _ _).trans ((pieceA m c t ht 2 _ _ _ _ _ _ _ (x 1) (x 2)).trans (place _ _ _ _ _ t 2 y (x 1) (x 2) h1 h2))
    case piece2 =>
      exact (headA1 _ _ _ _ _ _).trans ((pieceA m c t ht 1 _ _ _ _ _ _ _ (x 1) (x 2)).trans (place _ _ _ _ _ t 1 y (x 1) (x 2) h1 h2))
    case piece3 =>
      exact (headA0 _ _ _ _ _ _).trans ((pieceA m c t ht 0 _ _ _ _ _ _ _ (x 1) (x 2)).trans (place _ _ _ _ _ t 0 y (x 1) (x 2) h1 (by simpa using h2)))
  · rw [outsAt0_B m c t ht (by omega)]
    frame_out
    canon_tiles x h
    case piece0 =>
      exact (headB3 _ _ _ _ _ _).trans ((pieceB m c t ht 3 _ _ _ _ _ (x 1) (x 2)).trans (place _ _ _ _ _ t 3 y (x 1) (x 2) h1 h2))
    case piece1 =>
      exact (headB2 _ _ _ _ _ _).trans ((pieceB m c t ht 2 _ _ _ _ _ (x 1) (x 2)).trans (place _ _ _ _ _ t 2 y (x 1) (x 2) h1 h2))
    case piece2 =>
      exact (headB1 _ _ _ _ _ _).trans ((pieceB m c t ht 1 _ _ _ _ _ (x 1) (x 2)).trans (place _ _ _ _ _ t 1 y (x 1) (x 2) h1 h2))
    case piece3 =>
      exact (headB0 _ _ _ _ _ _).trans ((pieceB m c t ht 0 _ _ _ _ _ (x 1) (x 2)).trans (place _ _ _ _ _ t 0 y (x 1) (x 2) h1 (by simpa using h2)))

end Cert.Proof.Diff

end
-- ==== Proof.Diff.Math.lean ====
/- Hand-written, untrusted: the kernel's attention row (powers of two, one division at the end) is softmax attention,
   where the scores are real. -/
module

public import proofs.«01_k».proof.Proof.Diff.Spec

@[expose] public section

noncomputable section

namespace Cert.Proof.Diff

open Idealize.ShloMosaic

/-- The least value the maxima are folded from. -/
theorem bits_bot : Ideal.ofBits .f32 0xFF800000#32 = ⊥ := by
  simp [Ideal.ofBits, Ideal.ieee]

/-- An eighth, the scale of the scores. -/
theorem bits_eighth : Ideal.ofBits .f32 0x3E000000#32 = ((1 / 8 : ℝ) : EReal) := by
  simp [Ideal.ofBits, Ideal.ieee, -EReal.coe_mul]; norm_num

/-- Two, whose logarithm turns powers of e into powers of two. -/
theorem bits_two : Ideal.ofBits .f32 0x40000000#32 = ((2 : ℝ) : EReal) := by
  simp [Ideal.ofBits, Ideal.ieee, -EReal.coe_mul]; norm_num

/-- The scale the kernel's queries carry: an eighth over the logarithm of two. -/
theorem scale_eq : Ideal.div (Ideal.ofBits .f32 0x3E000000#32) (Ideal.log (Ideal.ofBits .f32 0x40000000#32))
    = ((1 / 8 / Real.log 2 : ℝ) : EReal) := by
  have h2 : (0 : ℝ) < Real.log 2 := Real.log_pos (by norm_num)
  rw [bits_two, bits_eighth, Ideal.log_coe, if_neg (by norm_num), Ideal.div_coe h2.ne', ← EReal.coe_mul]
  congr 1
  ring

/-- A real sum is the same sum over the extended reals. -/
theorem coe_sum {ι : Type*} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- A product by a real that is not negative goes through a sum, whatever the summands are. -/
theorem sum_mul_coe {ι : Type*} (s : Finset ι) (f : ι → EReal) (c : ℝ) (hc : 0 ≤ c) :
    (∑ x ∈ s, f x) * (c : EReal) = ∑ x ∈ s, f x * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- The greatest of real scores, at an index where it is taken. -/
theorem top_coe {n : ℕ} (r : Fin n → ℝ) (k : Fin n) (h : ∀ x, r x ≤ r k) : top (fun x => (r x : EReal)) = (r k : EReal) := by
  unfold top
  rw [bits_bot]
  refine le_antisymm ?_ ?_
  · exact Finset.fold_max_le _ |>.2 ⟨bot_le, fun x _ => by exact_mod_cast h x⟩
  · exact Finset.le_fold_max _ |>.2 (Or.inr ⟨k, Finset.mem_univ _, le_rfl⟩)

/-- A fold of `max` from the least value, joined once more with the least value. -/
theorem max_top {n : ℕ} (s : Fin n → EReal) : max (Ideal.ofBits .f32 0xFF800000#32) (top s) = top s := by
  rw [bits_bot]; exact max_eq_right bot_le

/-- On real scores the kernel's row, whose scores carry the factor 1 / log 2, is softmax attention. The values may be
    infinite. -/
theorem krow_eq_attend {n : ℕ} (hn : 0 < n) (r : Fin n → ℝ) (v : Fin n → EReal) :
    krow (fun x => ((1 / 8 / Real.log 2 * r x : ℝ) : EReal)) v (fun _ => 1)
      = attend (fun x => ((r x * (1 / 8) : ℝ) : EReal)) v := by
  have h2 : (0 : ℝ) < Real.log 2 := Real.log_pos (by norm_num)
  haveI : Nonempty (Fin n) := ⟨⟨0, hn⟩⟩
  obtain ⟨k, hk⟩ := Finite.exists_max r
  have t1 : top (fun x => ((1 / 8 / Real.log 2 * r x : ℝ) : EReal)) = ((1 / 8 / Real.log 2 * r k : ℝ) : EReal) :=
    top_coe (fun x => 1 / 8 / Real.log 2 * r x) k fun x => by
      have := hk x
      exact mul_le_mul_of_nonneg_left this (by positivity)
  have t2 : top (fun x => ((r x * (1 / 8) : ℝ) : EReal)) = ((r k * (1 / 8) : ℝ) : EReal) :=
    top_coe (fun x => r x * (1 / 8)) k fun x => by have := hk x; linarith
  have e1 : ∀ x, Ideal.exp2 (((1 / 8 / Real.log 2 * r x : ℝ) : EReal) - ((1 / 8 / Real.log 2 * r k : ℝ) : EReal))
      = ((Real.exp ((r x - r k) / 8) : ℝ) : EReal) := fun x => by
    rw [← EReal.coe_sub, Ideal.exp2_coe]
    congr 1
    rw [show ∀ a b : ℝ, Real.rpow a b = a ^ b from fun _ _ => rfl, Real.rpow_def_of_pos (by norm_num)]
    congr 1
    field_simp
  have e2 : ∀ x, Ideal.exp (((r x * (1 / 8) : ℝ) : EReal) - ((r k * (1 / 8) : ℝ) : EReal))
      = ((Real.exp ((r x - r k) / 8) : ℝ) : EReal) := fun x => by
    rw [← EReal.coe_sub, Ideal.exp_coe]
    congr 2
    ring
  unfold krow attend
  rw [t1, t2]
  simp only [e1, e2, mul_one]
  rw [← coe_sum]
  have hS : (0 : ℝ) < ∑ x, Real.exp ((r x - r k) / 8) := Finset.sum_pos (fun x _ => Real.exp_pos _) Finset.univ_nonempty
  simp only [Ideal.div_coe hS.ne']
  rw [sum_mul_coe _ _ _ (by positivity)]
  exact Finset.sum_congr rfl fun x _ => mul_right_comm _ _ _

/-- A score of a query that is masked to one half of the lanes and scaled is the scaled score over that half. -/
theorem score_half (a : Fin 2) (c : ℝ) (q k : Fin 128 → ℝ) :
    score (fun l => if l.val / 64 = a.val then (q l : EReal) * (c : EReal) else 0) (fun l => (k l : EReal))
      = ((c * ∑ x : Fin 64, q ⟨a * 64 + x, by omega⟩ * k ⟨a * 64 + x, by omega⟩ : ℝ) : EReal) := by
  have h : ∀ l : Fin 128, (if l.val / 64 = a.val then (q l : EReal) * (c : EReal) else 0) * (k l : EReal)
      = ((if l.val / 64 = a.val then c * (q l * k l) else 0 : ℝ) : EReal) := fun l => by
    split
    · rw [← EReal.coe_mul, ← EReal.coe_mul]; congr 1; ring
    · simp
  unfold score
  simp only [h]
  rw [← coe_sum]
  congr 1
  rw [Finset.mul_sum]
  change ∑ l : Fin (64 + 64), _ = _
  rw [Fin.sum_univ_add]
  fin_cases a
  · have h0 : ∀ i : Fin 64, (Fin.castAdd 64 i).val / 64 = 0 := fun i => by simp
    have h1 : ∀ i : Fin 64, (Fin.natAdd 64 i).val / 64 ≠ 0 := fun i => by simp
    simp only [h0, h1, if_true, if_false, Finset.sum_const_zero, add_zero]
    exact Finset.sum_congr rfl fun i _ => by
      have : Fin.castAdd 64 i = (⟨0 * 64 + i, by omega⟩ : Fin 128) := Fin.ext (by simp)
      simp [this]
  · have h0 : ∀ i : Fin 64, (Fin.castAdd 64 i).val / 64 ≠ 1 := fun i => by simp; omega
    have h1 : ∀ i : Fin 64, (Fin.natAdd 64 i).val / 64 = 1 := fun i => by simp
    simp only [h0, h1, if_true, if_false, Finset.sum_const_zero, zero_add]
    exact Finset.sum_congr rfl fun i _ => by
      have : Fin.natAdd 64 i = (⟨1 * 64 + i, by omega⟩ : Fin 128) := Fin.ext (by simp; omega)
      rw [this]

end Cert.Proof.Diff

end
-- ==== Proof.Diff.Reduce.lean ====
module
public import Idealize.ShloMosaic.Lib.Pointwise
public import proofs.«01_k».proof.Proof.Diff.Math
@[expose] public section
noncomputable section

/-! The maximum a reference takes over the last of four axes, read at an index, at every extent. -/
namespace Cert.Proof.Diff
open Idealize.ShloMosaic Idealize.ShloMosaic.TcCoe Idealize.SL.Sem

/-- The coordinate put back on the last axis of a rank-three index. -/
theorem lift_ix3 {a b c n : ℕ} (h : (⟨4, ![a, b, c, n]⟩ : Shape).Reduces [3] ⟨3, ![a, b, c]⟩) (i : Fin a) (j : Fin b)
    (k : Fin c) (l : Fin n) : h.lift (ix3 i j k) l = ix4 i j k l := by
  funext x
  fin_cases x <;> rfl

/-- A reference's row maximum over the last of four axes is the fold of `max` over that axis. -/
theorem reduceMax_apply {a b c n : ℕ} (y : FVec Ideal ⟨4, ![a, b, c, n]⟩ .f32)
    (h : (⟨4, ![a, b, c, n]⟩ : Shape).ReducesTo [3] ⟨3, ![a, b, c]⟩)
    (h' : (⟨4, ![a, b, c, n]⟩ : Shape).Reduces [3] ⟨3, ![a, b, c]⟩) (hu : 0 < (⟨0, ![]⟩ : Shape).numel)
    (i : Fin a) (j : Fin b) (k : Fin c) :
    Host.reduce FloatOps.maximumf y (constant (F := Ideal) ⟨0, ![]⟩ .f32 0xFF800000#32) h hu (ix3 i j k)
      = top fun l => y (ix4 i j k l) := by
  rw [Host.reduce_eq_fold_single _ y _ h h' hu]
  unfold top
  congr 1
  funext l
  exact congrArg y (lift_ix3 h' i j k l)

/-- The same after one more maximum with −∞, as jax's softmax writes it. -/
theorem rowMax_apply {a b c n : ℕ} (y : FVec Ideal ⟨4, ![a, b, c, n]⟩ .f32)
    (h : (⟨4, ![a, b, c, n]⟩ : Shape).ReducesTo [3] ⟨3, ![a, b, c]⟩)
    (h' : (⟨4, ![a, b, c, n]⟩ : Shape).Reduces [3] ⟨3, ![a, b, c]⟩) (hu : 0 < (⟨0, ![]⟩ : Shape).numel)
    (z : FVec Ideal ⟨3, ![a, b, c]⟩ .f32) (i : Fin a) (j : Fin b) (k : Fin c)
    (hz : z (ix3 i j k) = Ideal.ofBits .f32 0xFF800000#32) :
    maximumf z (Host.reduce FloatOps.maximumf y (constant (F := Ideal) ⟨0, ![]⟩ .f32 0xFF800000#32) h hu) (ix3 i j k)
      = top fun l => y (ix4 i j k l) := by
  show max (z (ix3 i j k)) (Host.reduce FloatOps.maximumf y (constant (F := Ideal) ⟨0, ![]⟩ .f32 0xFF800000#32) h hu (ix3 i j k)) = _
  rw [reduceMax_apply y h h' hu i j k, hz]
  exact max_top _

end Cert.Proof.Diff
end
-- ==== Proof.Diff.Ref.lean ====
/- Hand-written, untrusted: the reference's attention, entry by entry. -/
module

public import proofs.«01_k».proof.Proof.Gen.ReferenceIdeal.Read
public import proofs.«01_k».proof.Proof.Diff.Reduce
public import proofs.«01_k».proof.Proof.Diff.Math

@[expose] public section

set_option maxRecDepth 16384

noncomputable section

namespace Cert.Proof.Diff.Ref

open Cert.ReferenceIdeal Cert.ReferenceIdeal.Gen Cert.ReferenceIdeal.Read Idealize.ShloMosaic Idealize.ShloMosaic.TcCoe Idealize.SL.Sem

variable (x0 x1 x2 : Vec Ideal S8x4096x512 .f32) (x3 x4 x5 : Vec Ideal S8x256x512 .f32)

/-- Context tokens before latent ones: entry `i` of token `t` of the joined array. -/
def joined (xc : Vec Ideal S8x256x512 .f32) (xl : Vec Ideal S8x4096x512 .f32) (b : Fin 8) (t : Fin 4352) (i : Fin 512) : EReal :=
  if h : t.val < 256 then xc (ix3 b ⟨t, h⟩ i) else xl (ix3 b ⟨t - 256, by omega⟩ i)

/-- The scores of a latent query: its 64 lanes against a key's, times an eighth. -/
theorem v28 (b n : Fin 8) (t : Fin 4096) (x : Fin 4352) : val_main_v28 (F := Ideal) x0 x1 x4 (ix4 b n t x)
    = (∑ l : Fin 64, x0 (ix3 b t ⟨n * 64 + l, by omega⟩) * joined x4 x1 b x ⟨n * 64 + l, by omega⟩) * Ideal.ofBits .f32 0x3E000000#32 := by
  unfold joined
  pointwise [val_main_v28, val_main_v27, val_main_cst_2, val_main_v26, val_main_v1, val_main_v0, val_main_v24, val_main_v11, val_main_v10, val_main_v3, val_main_v2]

/-- The values: joined, one block of 128 lanes for a pair of heads. -/
theorem v25 (b n : Fin 8) (x : Fin 4352) (d : Fin 128) : val_main_v25 (F := Ideal) x2 x5 (ix4 b n x d)
    = joined x5 x2 b x ⟨n / 2 * 128 + d, by omega⟩ := by
  unfold joined
  pointwise [val_main_v25, val_main_v15, val_main_v14, val_main_v13, val_main_v12, val_main_v7, val_main_v6, val_main_v5, val_main_v4]

/-- The greatest score of a latent query. -/
theorem v31 (b n : Fin 8) (t : Fin 4096) : val_main_v31 (F := Ideal) x0 x1 x4 (ix3 b n t)
    = top fun x => val_main_v28 (F := Ideal) x0 x1 x4 (ix4 b n t x) := by
  unfold val_main_v31 val_main_v29 val_main_cst_3
  generalize val_main_v28 (F := Ideal) x0 x1 x4 = y
  generalize hz : val_main_v30 (F := Ideal) = z
  exact rowMax_apply y reducesTo_S8x8x4096x4352_S8x8x4096_d3 (by decide) h_S_ z b n t (by rw [← hz]; rfl)

/-- The exponentials of the scores below the greatest. -/
theorem v35 (b n : Fin 8) (t : Fin 4096) (x : Fin 4352) : val_main_v35 (F := Ideal) x0 x1 x4 (ix4 b n t x)
    = Ideal.exp (val_main_v28 (F := Ideal) x0 x1 x4 (ix4 b n t x) - val_main_v31 (F := Ideal) x0 x1 x4 (ix3 b n t)) := by
  unfold val_main_v35 val_main_v34 val_main_v33 val_main_v32
  generalize val_main_v28 (F := Ideal) x0 x1 x4 = y
  generalize val_main_v31 (F := Ideal) x0 x1 x4 = z
  pointwise

/-- Their sum. -/
theorem v38 (b n : Fin 8) (t : Fin 4096) (x : Fin 4352) : val_main_v38 (F := Ideal) x0 x1 x4 (ix4 b n t x)
    = ∑ y, val_main_v35 (F := Ideal) x0 x1 x4 (ix4 b n t y) := by
  unfold val_main_v38 val_main_v37 val_main_v36
  generalize val_main_v35 (F := Ideal) x0 x1 x4 = y
  pointwise [val_main_cst_5]

/-- A latent query's attention. -/
theorem v40 (b n : Fin 8) (t : Fin 4096) (d : Fin 128) : val_main_v40 (F := Ideal) x0 x1 x2 x4 x5 (ix4 b n t d)
    = attend (fun x => val_main_v28 (F := Ideal) x0 x1 x4 (ix4 b n t x)) (fun x => joined x5 x2 b x ⟨n / 2 * 128 + d, by omega⟩) := by
  have e : val_main_v40 (F := Ideal) x0 x1 x2 x4 x5 (ix4 b n t d)
      = ∑ x, Ideal.div (val_main_v35 (F := Ideal) x0 x1 x4 (ix4 b n t x)) (val_main_v38 (F := Ideal) x0 x1 x4 (ix4 b n t x))
        * val_main_v25 (F := Ideal) x2 x5 (ix4 b n x d) := by
    unfold val_main_v40 val_main_v39
    generalize val_main_v35 (F := Ideal) x0 x1 x4 = y
    generalize val_main_v38 (F := Ideal) x0 x1 x4 = z
    generalize val_main_v25 (F := Ideal) x2 x5 = w
    pointwise
  rw [e]
  simp only [v38, v35, v31, v25]
  rfl

/-- The scores of a context query: its 64 lanes against a key's, times an eighth. -/
theorem v68 (b n : Fin 8) (t : Fin 256) (x : Fin 256) : val_main_v68 (F := Ideal) x3 x4 (ix4 b n t x)
    = (∑ l : Fin 64, x3 (ix3 b t ⟨n * 64 + l, by omega⟩) * x4 (ix3 b x ⟨n * 64 + l, by omega⟩)) * Ideal.ofBits .f32 0x3E000000#32 := by
  pointwise [val_main_v68, val_main_v67, val_main_cst_10, val_main_v66, val_main_v9, val_main_v8, val_main_v11, val_main_v10]

/-- The context's values, one block of 128 lanes for a pair of heads. -/
theorem v15 (b n : Fin 8) (x : Fin 256) (d : Fin 128) : val_main_v15 (F := Ideal) x5 (ix4 b n x d)
    = x5 (ix3 b x ⟨n / 2 * 128 + d, by omega⟩) := by
  pointwise [val_main_v15, val_main_v14, val_main_v13, val_main_v12]

/-- The greatest score of a context query. -/
theorem v71 (b n : Fin 8) (t : Fin 256) : val_main_v71 (F := Ideal) x3 x4 (ix3 b n t)
    = top fun x => val_main_v68 (F := Ideal) x3 x4 (ix4 b n t x) := by
  unfold val_main_v71 val_main_v69 val_main_cst_11
  generalize val_main_v68 (F := Ideal) x3 x4 = y
  generalize hz : val_main_v70 (F := Ideal) = z
  exact rowMax_apply y reducesTo_S8x8x256x256_S8x8x256_d3 (by decide) h_S_ z b n t (by rw [← hz]; rfl)

/-- The exponentials of the scores below the greatest. -/
theorem v75 (b n : Fin 8) (t : Fin 256) (x : Fin 256) : val_main_v75 (F := Ideal) x3 x4 (ix4 b n t x)
    = Ideal.exp (val_main_v68 (F := Ideal) x3 x4 (ix4 b n t x) - val_main_v71 (F := Ideal) x3 x4 (ix3 b n t)) := by
  unfold val_main_v75 val_main_v74 val_main_v73 val_main_v72
  generalize val_main_v68 (F := Ideal) x3 x4 = y
  generalize val_main_v71 (F := Ideal) x3 x4 = z
  pointwise

/-- Their sum. -/
theorem v78 (b n : Fin 8) (t : Fin 256) (x : Fin 256) : val_main_v78 (F := Ideal) x3 x4 (ix4 b n t x)
    = ∑ y, val_main_v75 (F := Ideal) x3 x4 (ix4 b n t y) := by
  unfold val_main_v78 val_main_v77 val_main_v76
  generalize val_main_v75 (F := Ideal) x3 x4 = y
  pointwise [val_main_cst_13]

/-- A context query's attention. -/
theorem v80 (b n : Fin 8) (t : Fin 256) (d : Fin 128) : val_main_v80 (F := Ideal) x3 x4 x5 (ix4 b n t d)
    = attend (fun x => val_main_v68 (F := Ideal) x3 x4 (ix4 b n t x)) (fun x => x5 (ix3 b x ⟨n / 2 * 128 + d, by omega⟩)) := by
  have e : val_main_v80 (F := Ideal) x3 x4 x5 (ix4 b n t d)
      = ∑ x, Ideal.div (val_main_v75 (F := Ideal) x3 x4 (ix4 b n t x)) (val_main_v78 (F := Ideal) x3 x4 (ix4 b n t x))
        * val_main_v15 (F := Ideal) x5 (ix4 b n x d) := by
    unfold val_main_v80 val_main_v79
    generalize val_main_v75 (F := Ideal) x3 x4 = y
    generalize val_main_v78 (F := Ideal) x3 x4 = z
    generalize val_main_v15 (F := Ideal) x5 = w
    pointwise
  rw [e]
  simp only [v78, v75, v71, v15]
  rfl

end Cert.Proof.Diff.Ref

end
-- ==== Proof.Diff.RefOut.lean ====
/- Hand-written, untrusted: the reference's difference of two attentions, normed, entry by entry. -/
module

public import proofs.«01_k».proof.Proof.Gen.ReferenceIdeal.Read
public import proofs.«01_k».proof.Proof.Diff.Ref

@[expose] public section

set_option maxRecDepth 16384

noncomputable section

namespace Cert.Proof.Diff.Ref

open Cert.ReferenceIdeal Cert.ReferenceIdeal.Gen Cert.ReferenceIdeal.Read Idealize.ShloMosaic Idealize.ShloMosaic.TcCoe Idealize.SL.Sem

variable (x0 x1 x2 : Vec Ideal S8x4096x512 .f32) (x3 x4 x5 : Vec Ideal S8x256x512 .f32)
  (x6 x7 x8 x9 : Vec Ideal S64 .f32) (x10 : Vec Ideal S128 .f32)

/-- The first map of a pair of latent heads. -/
theorem v43 (b : Fin 8) (h : Fin 4) (t : Fin 4096) (j : Fin 128) : val_main_v43 (F := Ideal) x0 x1 x2 x4 x5 (ix4 b h t j)
    = val_main_v40 (F := Ideal) x0 x1 x2 x4 x5 (ix4 b ⟨2 * h, by omega⟩ t j) := by
  unfold val_main_v43 val_main_v42 val_main_v41
  generalize val_main_v40 (F := Ideal) x0 x1 x2 x4 x5 = y
  pointwise
  simp only [Nat.mul_comm]

/-- The second map of a pair of latent heads. -/
theorem v45 (b : Fin 8) (h : Fin 4) (t : Fin 4096) (j : Fin 128) : val_main_v45 (F := Ideal) x0 x1 x2 x4 x5 (ix4 b h t j)
    = val_main_v40 (F := Ideal) x0 x1 x2 x4 x5 (ix4 b ⟨2 * h + 1, by omega⟩ t j) := by
  unfold val_main_v45 val_main_v44 val_main_v41
  generalize val_main_v40 (F := Ideal) x0 x1 x2 x4 x5 = y
  pointwise
  simp only [Nat.mul_comm]

/-- The difference of a pair of latent heads' attentions, the second weighed. -/
theorem v48 (b : Fin 8) (h : Fin 4) (t : Fin 4096) (j : Fin 128) : val_main_v48 (F := Ideal) x0 x1 x2 x4 x5 x6 x7 x8 x9 (ix4 b h t j)
    = val_main_v40 (F := Ideal) x0 x1 x2 x4 x5 (ix4 b ⟨2 * h, by omega⟩ t j)
      - val_main_v23 (F := Ideal) x6 x7 x8 x9 (fun a => a.elim0) * val_main_v40 (F := Ideal) x0 x1 x2 x4 x5 (ix4 b ⟨2 * h + 1, by omega⟩ t j) := by
  rw [val_main_v48_apply, val_main_v47_apply, val_main_v46_apply, v43, v45]
  rfl

/-- The sum of the squares of a row of the difference. -/
theorem v50 (b : Fin 8) (h : Fin 4) (t : Fin 4096) : val_main_v50 (F := Ideal) x0 x1 x2 x4 x5 x6 x7 x8 x9 (ix3 b h t)
    = ∑ l : Fin 128, val_main_v48 (F := Ideal) x0 x1 x2 x4 x5 x6 x7 x8 x9 (ix4 b h t l) * val_main_v48 (F := Ideal) x0 x1 x2 x4 x5 x6 x7 x8 x9 (ix4 b h t l) := by
  have e : val_main_v50 (F := Ideal) x0 x1 x2 x4 x5 x6 x7 x8 x9 (ix3 b h t) = ∑ l : Fin 128, val_main_v49 (F := Ideal) x0 x1 x2 x4 x5 x6 x7 x8 x9 (ix4 b h t l) := by
    unfold val_main_v50
    generalize val_main_v49 (F := Ideal) x0 x1 x2 x4 x5 x6 x7 x8 x9 = y
    pointwise [val_main_cst_6]
  exact e.trans (Finset.sum_congr rfl fun l _ => val_main_v49_apply x0 x1 x2 x4 x5 x6 x7 x8 x9 (ix4 b h t l))

/-- The gain, the same for all rows. -/
theorem v60 (b : Fin 8) (h : Fin 4) (t : Fin 4096) (j : Fin 128) : val_main_v60 (F := Ideal) x10 (ix4 b h t j) = x10 (ix1 j) := by
  pointwise [val_main_v60, val_main_v59]

/-- The reciprocal root of a row's mean square. -/
theorem v57 (b : Fin 8) (h : Fin 4) (t : Fin 4096) (j : Fin 128) : val_main_v57 (F := Ideal) x0 x1 x2 x4 x5 x6 x7 x8 x9 (ix4 b h t j)
    = Ideal.rsqrt (Ideal.div (val_main_v50 (F := Ideal) x0 x1 x2 x4 x5 x6 x7 x8 x9 (ix3 b h t)) (Ideal.ofBits .f32 0x43000000#32) + Ideal.ofBits .f32 0x358637BD#32) := by
  have e : idx_main_v51 (idx_main_v57 (ix4 b h t j)) = ix3 b h t := by
    funext x
    fin_cases x <;> rfl
  rw [val_main_v57_apply, val_main_v56_apply, val_main_v55_apply, val_main_v53_apply, val_main_v51_apply, e]
  rfl

/-- The difference normed and weighed. -/
theorem v63 (b : Fin 8) (h : Fin 4) (t : Fin 4096) (j : Fin 128) : val_main_v63 (F := Ideal) x0 x1 x2 x4 x5 x6 x7 x8 x9 x10 (ix4 b h t j)
    = rmsOut (fun l => val_main_v48 (F := Ideal) x0 x1 x2 x4 x5 x6 x7 x8 x9 (ix4 b h t l)) (x10 (ix1 j)) j := by
  rw [val_main_v63_apply, val_main_v61_apply, val_main_v58_apply, v57, v50, v60]
  rfl

/-- The heads side by side. -/
theorem v65 (b : Fin 8) (t : Fin 4096) (i : Fin 512) : val_main_v65 (F := Ideal) x0 x1 x2 x4 x5 x6 x7 x8 x9 x10 (ix3 b t i)
    = val_main_v63 (F := Ideal) x0 x1 x2 x4 x5 x6 x7 x8 x9 x10 (ix4 b ⟨i / 128, by omega⟩ t ⟨i % 128, by omega⟩) := by
  unfold val_main_v65 val_main_v64
  generalize val_main_v63 (F := Ideal) x0 x1 x2 x4 x5 x6 x7 x8 x9 x10 = y
  pointwise

/-- The first map of a pair of context heads. -/
theorem v83 (b : Fin 8) (h : Fin 4) (t : Fin 256) (j : Fin 128) : val_main_v83 (F := Ideal) x3 x4 x5 (ix4 b h t j)
    = val_main_v80 (F := Ideal) x3 x4 x5 (ix4 b ⟨2 * h, by omega⟩ t j) := by
  unfold val_main_v83 val_main_v82 val_main_v81
  generalize val_main_v80 (F := Ideal) x3 x4 x5 = y
  pointwise
  simp only [Nat.mul_comm]

/-- The second map of a pair of context heads. -/
theorem v85 (b : Fin 8) (h : Fin 4) (t : Fin 256) (j : Fin 128) : val_main_v85 (F := Ideal) x3 x4 x5 (ix4 b h t j)
    = val_main_v80 (F := Ideal) x3 x4 x5 (ix4 b ⟨2 * h + 1, by omega⟩ t j) := by
  unfold val_main_v85 val_main_v84 val_main_v81
  generalize val_main_v80 (F := Ideal) x3 x4 x5 = y
  pointwise
  simp only [Nat.mul_comm]

/-- The difference of a pair of context heads' attentions, the second weighed. -/
theorem v88 (b : Fin 8) (h : Fin 4) (t : Fin 256) (j : Fin 128) : val_main_v88 (F := Ideal) x3 x4 x5 x6 x7 x8 x9 (ix4 b h t j)
    = val_main_v80 (F := Ideal) x3 x4 x5 (ix4 b ⟨2 * h, by omega⟩ t j)
      - val_main_v23 (F := Ideal) x6 x7 x8 x9 (fun a => a.elim0) * val_main_v80 (F := Ideal) x3 x4 x5 (ix4 b ⟨2 * h + 1, by omega⟩ t j) := by
  rw [val_main_v88_apply, val_main_v87_apply, val_main_v86_apply, v83, v85]
  rfl

/-- The sum of the squares of a row of the difference. -/
theorem v90 (b : Fin 8) (h : Fin 4) (t : Fin 256) : val_main_v90 (F := Ideal) x3 x4 x5 x6 x7 x8 x9 (ix3 b h t)
    = ∑ l : Fin 128, val_main_v88 (F := Ideal) x3 x4 x5 x6 x7 x8 x9 (ix4 b h t l) * val_main_v88 (F := Ideal) x3 x4 x5 x6 x7 x8 x9 (ix4 b h t l) := by
  have e : val_main_v90 (F := Ideal) x3 x4 x5 x6 x7 x8 x9 (ix3 b h t) = ∑ l : Fin 128, val_main_v89 (F := Ideal) x3 x4 x5 x6 x7 x8 x9 (ix4 b h t l) := by
    unfold val_main_v90
    generalize val_main_v89 (F := Ideal) x3 x4 x5 x6 x7 x8 x9 = y
    pointwise [val_main_cst_14]
  exact e.trans (Finset.sum_congr rfl fun l _ => val_main_v89_apply x3 x4 x5 x6 x7 x8 x9 (ix4 b h t l))

/-- The gain, the same for all rows. -/
theorem v100 (b : Fin 8) (h : Fin 4) (t : Fin 256) (j : Fin 128) : val_main_v100 (F := Ideal) x10 (ix4 b h t j) = x10 (ix1 j) := by
  pointwise [val_main_v100, val_main_v99]

/-- The reciprocal root of a row's mean square. -/
theorem v97 (b : Fin 8) (h : Fin 4) (t : Fin 256) (j : Fin 128) : val_main_v97 (F := Ideal) x3 x4 x5 x6 x7 x8 x9 (ix4 b h t j)
    = Ideal.rsqrt (Ideal.div (val_main_v90 (F := Ideal) x3 x4 x5 x6 x7 x8 x9 (ix3 b h t)) (Ideal.ofBits .f32 0x43000000#32) + Ideal.ofBits .f32 0x358637BD#32) := by
  have e : idx_main_v91 (idx_main_v97 (ix4 b h t j)) = ix3 b h t := by
    funext x
    fin_cases x <;> rfl
  rw [val_main_v97_apply, val_main_v96_apply, val_main_v95_apply, val_main_v93_apply, val_main_v91_apply, e]
  rfl

/-- The difference normed and weighed. -/
theorem v103 (b : Fin 8) (h : Fin 4) (t : Fin 256) (j : Fin 128) : val_main_v103 (F := Ideal) x3 x4 x5 x6 x7 x8 x9 x10 (ix4 b h t j)
    = rmsOut (fun l => val_main_v88 (F := Ideal) x3 x4 x5 x6 x7 x8 x9 (ix4 b h t l)) (x10 (ix1 j)) j := by
  rw [val_main_v103_apply, val_main_v101_apply, val_main_v98_apply, v97, v90, v100]
  rfl

/-- The heads side by side. -/
theorem v105 (b : Fin 8) (t : Fin 256) (i : Fin 512) : val_main_v105 (F := Ideal) x3 x4 x5 x6 x7 x8 x9 x10 (ix3 b t i)
    = val_main_v103 (F := Ideal) x3 x4 x5 x6 x7 x8 x9 x10 (ix4 b ⟨i / 128, by omega⟩ t ⟨i % 128, by omega⟩) := by
  unfold val_main_v105 val_main_v104
  generalize val_main_v103 (F := Ideal) x3 x4 x5 x6 x7 x8 x9 x10 = y
  pointwise

/-- The weight of the second map, from the four vectors. -/
theorem v23 (i : S_.Idx) : val_main_v23 (F := Ideal) x6 x7 x8 x9 i
    = lamOf fun a d => (![x6, x7, x8, x9] a) (ix1 d) := by
  have e17 : val_main_v17 (F := Ideal) x6 x7 i = ∑ d : Fin 64, x6 (ix1 d) * x7 (ix1 d) := by
    have hi : i = fun a => a.elim0 := funext fun a => a.elim0
    subst hi
    pointwise [val_main_v17, val_main_v16, val_main_cst]
  have e20 : val_main_v20 (F := Ideal) x8 x9 i = ∑ d : Fin 64, x8 (ix1 d) * x9 (ix1 d) := by
    have hi : i = fun a => a.elim0 := funext fun a => a.elim0
    subst hi
    pointwise [val_main_v20, val_main_v19, val_main_cst_0]
  show Ideal.exp (val_main_v17 (F := Ideal) x6 x7 i) - Ideal.exp (val_main_v20 (F := Ideal) x8 x9 i) + Ideal.ofBits .f32 0x3E4CCCCD#32 = _
  rw [e17, e20]
  rfl

/-- The result: context tokens, then latent ones. -/
theorem v107 (b : Fin 8) (t : Fin 4352) (i : Fin 512) : val_main_v107 (F := Ideal) x0 x1 x2 x3 x4 x5 x6 x7 x8 x9 x10 (ix3 b t i)
    = if h : t.val < 256 then val_main_v105 (F := Ideal) x3 x4 x5 x6 x7 x8 x9 x10 (ix3 b ⟨t, h⟩ i)
      else val_main_v65 (F := Ideal) x0 x1 x2 x4 x5 x6 x7 x8 x9 x10 (ix3 b ⟨t - 256, by omega⟩ i) := by
  unfold val_main_v107 val_main_v106
  generalize val_main_v105 (F := Ideal) x3 x4 x5 x6 x7 x8 x9 x10 = y
  generalize val_main_v65 (F := Ideal) x0 x1 x2 x4 x5 x6 x7 x8 x9 x10 = z
  pointwise

end Cert.Proof.Diff.Ref

end
-- ==== Proof.Diff.Pair.lean ====
/- Hand-written, untrusted: a kernel's attention row and a reference's, the same number. -/
module

public import proofs.«01_k».proof.Proof.Diff.Math

@[expose] public section

noncomputable section

namespace Cert.Proof.Diff

open Idealize.ShloMosaic

/-- The kernel's row for map `a` of the pair `h`, whose query is masked to its 64 lanes and scaled, is softmax attention
    over the scores of those lanes, when queries and keys are real. -/
theorem pair_eq {n : ℕ} (hn : 0 < n) (h : Fin 4) (a : Fin 2) (Q : Fin 128 → EReal) (K : Fin n → Fin 128 → EReal)
    (V O S W : Fin n → EReal) (qr : Fin 512 → EReal) (kr : Fin n → Fin 512 → EReal)
    (hqr : ∀ i, ∃ r : ℝ, qr i = (r : EReal)) (hkr : ∀ x i, ∃ r : ℝ, kr x i = (r : EReal))
    (hQ : ∀ l : Fin 128, Q l = if l.val / 64 = a.val then qr ⟨h * 128 + l, by omega⟩ * ((1 / 8 / Real.log 2 : ℝ) : EReal) else 0)
    (hK : ∀ x (l : Fin 128), K x l = kr x ⟨h * 128 + l, by omega⟩) (hO : ∀ x, O x = 1) (hV : ∀ x, V x = W x)
    (hS : ∀ x, S x = (∑ l : Fin 64, qr ⟨(2 * h + a) * 64 + l, by omega⟩ * kr x ⟨(2 * h + a) * 64 + l, by omega⟩)
      * Ideal.ofBits .f32 0x3E000000#32) : krow (fun x => score Q (K x)) V O = attend S W := by
  choose q hq using hqr
  choose k hk using hkr
  let r : Fin n → ℝ := fun x => ∑ l : Fin 64, q ⟨h * 128 + (a * 64 + l), by omega⟩ * k x ⟨h * 128 + (a * 64 + l), by omega⟩
  have e1 : ∀ x, score Q (K x) = ((1 / 8 / Real.log 2 * r x : ℝ) : EReal) := fun x => by
    have := score_half a (1 / 8 / Real.log 2) (fun l => q ⟨h * 128 + l, by omega⟩) (fun l => k x ⟨h * 128 + l, by omega⟩)
    rw [← this]
    congr 1
    · funext l; rw [hQ l, hq]
    · funext l; rw [hK x l, hk]
  have e2 : ∀ x, S x = ((r x * (1 / 8) : ℝ) : EReal) := fun x => by
    rw [hS x, bits_eighth, EReal.coe_mul]
    congr 1
    rw [coe_sum]
    refine Finset.sum_congr rfl fun l _ => ?_
    rw [hq, hk, ← EReal.coe_mul]
    have : (2 * h.val + a.val) * 64 + l.val = h.val * 128 + (a.val * 64 + l.val) := by omega
    simp only [this]
  rw [show S = _ from funext e2, show V = W from funext hV, show O = fun _ => 1 from funext hO, ← krow_eq_attend hn r W]
  congr 1
  funext x
  exact e1 x

/-- Equal differences and equal gains have equal norms. -/
theorem rmsOut_congr (d d' : Fin 128 → EReal) (g g' : EReal) (j : Fin 128) (hd : ∀ l, d l = d' l) (hg : g = g') :
    rmsOut d g j = rmsOut d' g' j := by
  rw [show d = d' from funext hd, hg]

end Cert.Proof.Diff

end
-- ==== Proof.Diff.Tie.lean ====
/- Hand-written, untrusted: the kernel's result and the reference's, the same numbers. -/
module

public import proofs.«01_k».proof.Proof.Diff.Final
public import proofs.«01_k».proof.Proof.Diff.RefOut
public import proofs.«01_k».proof.Proof.Diff.Pair

@[expose] public section

set_option maxRecDepth 16384

noncomputable section

namespace Cert.Proof.Diff.Tie

open Cert.ReferenceIdeal Cert.ReferenceIdeal.Gen Cert.ReferenceIdeal.Read Idealize.ShloMosaic Idealize.ShloMosaic.TcCoe Idealize.SL.Sem
open Cert.Proof.Diff.Ref (joined)

/-- A joined array of real numbers holds real numbers. -/
theorem joined_real (xc : Vec Ideal S8x256x512 .f32) (xl : Vec Ideal S8x4096x512 .f32) (hc : ∀ i, ∃ r : ℝ, xc i = (r : EReal))
    (hl : ∀ i, ∃ r : ℝ, xl i = (r : EReal)) (b : Fin 8) (t : Fin 4352) (i : Fin 512) : ∃ r : ℝ, joined xc xl b t i = (r : EReal) := by
  unfold joined
  by_cases h : t.val < 256
  · rw [dif_pos h]; exact hc _
  · rw [dif_neg h]; exact hl _

variable (x0 x1 x2 : Vec Ideal S8x4096x512 .f32) (x3 x4 x5 : Vec Ideal S8x256x512 .f32)
  (x6 x7 x8 x9 : Vec Ideal S64 .f32) (x10 : Vec Ideal S128 .f32)
  (q : Vec Ideal Cert.KernelIdeal.S8x8x4352x128 .bf16) (k : Vec Ideal Cert.KernelIdeal.S8x4x4352x128 .bf16) (v : Vec Ideal Cert.KernelIdeal.S8x4x4352x256 .bf16)
  (lam : Vec Ideal Cert.KernelIdeal.S4x64 .f32) (g : Vec Ideal Cert.KernelIdeal.S1x128 .f32)

/-- Map `a` of the pair `h` at a latent token: the kernel's row is the reference's attention. -/
theorem latent (r0 : ∀ i, ∃ r : ℝ, x0 i = (r : EReal)) (r1 : ∀ i, ∃ r : ℝ, x1 i = (r : EReal))
    (r3 : ∀ i, ∃ r : ℝ, x3 i = (r : EReal)) (r4 : ∀ i, ∃ r : ℝ, x4 i = (r : EReal))
    (hq : ∀ b (n : Fin 8) t (d : Fin 128), q (ix4 b n t d) = if d.val / 64 = n.val % 2 then
      joined x3 x0 b t ⟨n / 2 * 128 + d, by omega⟩ * ((1 / 8 / Real.log 2 : ℝ) : EReal) else 0)
    (hk : ∀ b (h : Fin 4) t (d : Fin 128), k (ix4 b h t d) = joined x4 x1 b t ⟨h * 128 + d, by omega⟩)
    (hv : ∀ b (h : Fin 4) t (d : Fin 256) (hd : d.val < 128), v (ix4 b h t d) = joined x5 x2 b t ⟨h * 128 + d, by omega⟩)
    (h1 : ∀ b h t (d : Fin 256), ¬ d.val < 128 → v (ix4 b h t d) = 1)
    (b : Fin 8) (t : Fin 4352) (ht : ¬ t.val < 256) (h : Fin 4) (a : Fin 2) (l : Fin 128) :
    krow (fun (x : Fin 4352) => score (fun d => q (ix4 b ⟨2 * h + a, by omega⟩ t d)) (fun d => k (ix4 b h x d)))
      (fun (x : Fin 4352) => v (ix4 b h x ⟨l, by omega⟩)) (fun (x : Fin 4352) => v (ix4 b h x 128))
    = val_main_v40 (F := Ideal) x0 x1 x2 x4 x5 (ix4 b ⟨2 * h + a, by omega⟩ ⟨t - 256, by omega⟩ l) := by
  rw [Ref.v40]
  have em : (2 * h.val + a.val) % 2 = a.val := by omega
  have ed : (2 * h.val + a.val) / 2 = h.val := by omega
  refine pair_eq (n := 4352) (by norm_num) h a _ (fun (x : Fin 4352) d => k (ix4 b h x d)) _ _ _ _ (fun i => joined x3 x0 b t i) (fun (x : Fin 4352) i => joined x4 x1 b x i)
    (fun i => joined_real x3 x0 r3 r0 b t i) (fun x i => joined_real x4 x1 r4 r1 b _ i) (fun d => ?_) (fun x d => hk b h _ d)
    (fun x => h1 b h _ 128 (by decide)) (fun x => ?_) (fun x => ?_)
  · rw [hq]; simp only [em, ed]
  · rw [hv b h _ ⟨l, by omega⟩ l.isLt]; simp only [ed]
  · rw [Ref.v28]
    refine congrArg (· * _) (Finset.sum_congr rfl fun y _ => ?_)
    simp only [show joined x3 x0 b t = fun i => x0 (ix3 b ⟨t - 256, by omega⟩ i) from funext fun i => dif_neg ht]

/-- A latent token's entry of the kernel's result is the reference's. -/
theorem latent_out (r0 : ∀ i, ∃ r : ℝ, x0 i = (r : EReal)) (r1 : ∀ i, ∃ r : ℝ, x1 i = (r : EReal))
    (r3 : ∀ i, ∃ r : ℝ, x3 i = (r : EReal)) (r4 : ∀ i, ∃ r : ℝ, x4 i = (r : EReal))
    (hq : ∀ b (n : Fin 8) t (d : Fin 128), q (ix4 b n t d) = if d.val / 64 = n.val % 2 then
      joined x3 x0 b t ⟨n / 2 * 128 + d, by omega⟩ * ((1 / 8 / Real.log 2 : ℝ) : EReal) else 0)
    (hk : ∀ b (h : Fin 4) t (d : Fin 128), k (ix4 b h t d) = joined x4 x1 b t ⟨h * 128 + d, by omega⟩)
    (hv : ∀ b (h : Fin 4) t (d : Fin 256) (hd : d.val < 128), v (ix4 b h t d) = joined x5 x2 b t ⟨h * 128 + d, by omega⟩)
    (h1 : ∀ b h t (d : Fin 256), ¬ d.val < 128 → v (ix4 b h t d) = 1)
    (hl : ∀ a d, lam (ix2 a d) = (![x6, x7, x8, x9] a) (ix1 d)) (hg : ∀ j, g (ix2 0 j) = x10 (ix1 j))
    (b : Fin 8) (t : Fin 4352) (ht : ¬ t.val < 256) (h : Fin 4) (j : Fin 128) :
    outAt q k v lam g b t h j = val_main_v107 (F := Ideal) x0 x1 x2 x3 x4 x5 x6 x7 x8 x9 x10 (ix3 b t ⟨h * 128 + j, by omega⟩) := by
  have eh : (⟨(h.val * 128 + j.val) / 128, by omega⟩ : Fin 4) = h := Fin.ext (by show (h.val * 128 + j.val) / 128 = h.val; omega)
  have ej : (⟨(h.val * 128 + j.val) % 128, by omega⟩ : Fin 128) = j := Fin.ext (by show (h.val * 128 + j.val) % 128 = j.val; omega)
  unfold outAt
  rw [Ref.v107, dif_neg ht, if_neg ht, Ref.v65, Ref.v63]
  simp only [eh, ej]
  unfold headOut
  refine rmsOut_congr _ _ _ _ j (fun l => ?_) (hg j)
  rw [Ref.v48, Ref.v23]
  have el : (lamOf fun a d => lam (ix2 a d)) = lamOf fun a d => (![x6, x7, x8, x9] a) (ix1 d) := by simp only [hl]
  rw [el]
  have A := latent x0 x1 x2 x3 x4 x5 q k v r0 r1 r3 r4 hq hk hv h1 b t ht h
  exact congrArg₂ (· - ·) (A 0 l) (congrArg (_ * ·) (A 1 l))

/-- Map `a` of the pair `h` at a context token: the kernel's row is the reference's attention. -/
theorem context (r0 : ∀ i, ∃ r : ℝ, x0 i = (r : EReal)) (r1 : ∀ i, ∃ r : ℝ, x1 i = (r : EReal))
    (r3 : ∀ i, ∃ r : ℝ, x3 i = (r : EReal)) (r4 : ∀ i, ∃ r : ℝ, x4 i = (r : EReal))
    (hq : ∀ b (n : Fin 8) t (d : Fin 128), q (ix4 b n t d) = if d.val / 64 = n.val % 2 then
      joined x3 x0 b t ⟨n / 2 * 128 + d, by omega⟩ * ((1 / 8 / Real.log 2 : ℝ) : EReal) else 0)
    (hk : ∀ b (h : Fin 4) t (d : Fin 128), k (ix4 b h t d) = joined x4 x1 b t ⟨h * 128 + d, by omega⟩)
    (hv : ∀ b (h : Fin 4) t (d : Fin 256) (hd : d.val < 128), v (ix4 b h t d) = joined x5 x2 b t ⟨h * 128 + d, by omega⟩)
    (h1 : ∀ b h t (d : Fin 256), ¬ d.val < 128 → v (ix4 b h t d) = 1)
    (b : Fin 8) (t : Fin 4352) (ht : t.val < 256) (h : Fin 4) (a : Fin 2) (l : Fin 128) :
    krow (fun (x : Fin 256) => score (fun d => q (ix4 b ⟨2 * h + a, by omega⟩ t d)) (fun d => k (ix4 b h ⟨x, by omega⟩ d)))
      (fun (x : Fin 256) => v (ix4 b h ⟨x, by omega⟩ ⟨l, by omega⟩)) (fun (x : Fin 256) => v (ix4 b h ⟨x, by omega⟩ 128))
    = val_main_v80 (F := Ideal) x3 x4 x5 (ix4 b ⟨2 * h + a, by omega⟩ ⟨t, ht⟩ l) := by
  rw [Ref.v80]
  have em : (2 * h.val + a.val) % 2 = a.val := by omega
  have ed : (2 * h.val + a.val) / 2 = h.val := by omega
  have ej : ∀ (y : Fin 256) (i : Fin 512), joined x4 x1 b ⟨y, by omega⟩ i = x4 (ix3 b y i) := fun y i => dif_pos y.isLt
  have ev : ∀ (y : Fin 256) (i : Fin 512), joined x5 x2 b ⟨y, by omega⟩ i = x5 (ix3 b y i) := fun y i => dif_pos y.isLt
  refine pair_eq (n := 256) (by norm_num) h a _ (fun (x : Fin 256) d => k (ix4 b h ⟨x, by omega⟩ d)) _ _ _ _ (fun i => joined x3 x0 b t i) (fun (x : Fin 256) i => joined x4 x1 b ⟨x, by omega⟩ i)
    (fun i => joined_real x3 x0 r3 r0 b t i) (fun x i => joined_real x4 x1 r4 r1 b _ i) (fun d => ?_) (fun x d => hk b h _ d)
    (fun x => h1 b h _ 128 (by decide)) (fun x => ?_) (fun x => ?_)
  · rw [hq]; simp only [em, ed]
  · rw [hv b h _ ⟨l, by omega⟩ l.isLt, ev]; simp only [ed]
  · rw [Ref.v68]
    refine congrArg (· * _) (Finset.sum_congr rfl fun y _ => ?_)
    simp only [ej, show joined x3 x0 b t = fun i => x3 (ix3 b ⟨t, ht⟩ i) from funext fun i => dif_pos ht]

/-- A context token's entry of the kernel's result is the reference's. -/
theorem context_out (r0 : ∀ i, ∃ r : ℝ, x0 i = (r : EReal)) (r1 : ∀ i, ∃ r : ℝ, x1 i = (r : EReal))
    (r3 : ∀ i, ∃ r : ℝ, x3 i = (r : EReal)) (r4 : ∀ i, ∃ r : ℝ, x4 i = (r : EReal))
    (hq : ∀ b (n : Fin 8) t (d : Fin 128), q (ix4 b n t d) = if d.val / 64 = n.val % 2 then
      joined x3 x0 b t ⟨n / 2 * 128 + d, by omega⟩ * ((1 / 8 / Real.log 2 : ℝ) : EReal) else 0)
    (hk : ∀ b (h : Fin 4) t (d : Fin 128), k (ix4 b h t d) = joined x4 x1 b t ⟨h * 128 + d, by omega⟩)
    (hv : ∀ b (h : Fin 4) t (d : Fin 256) (hd : d.val < 128), v (ix4 b h t d) = joined x5 x2 b t ⟨h * 128 + d, by omega⟩)
    (h1 : ∀ b h t (d : Fin 256), ¬ d.val < 128 → v (ix4 b h t d) = 1)
    (hl : ∀ a d, lam (ix2 a d) = (![x6, x7, x8, x9] a) (ix1 d)) (hg : ∀ j, g (ix2 0 j) = x10 (ix1 j))
    (b : Fin 8) (t : Fin 4352) (ht : t.val < 256) (h : Fin 4) (j : Fin 128) :
    outAt q k v lam g b t h j = val_main_v107 (F := Ideal) x0 x1 x2 x3 x4 x5 x6 x7 x8 x9 x10 (ix3 b t ⟨h * 128 + j, by omega⟩) := by
  have eh : (⟨(h.val * 128 + j.val) / 128, by omega⟩ : Fin 4) = h := Fin.ext (by show (h.val * 128 + j.val) / 128 = h.val; omega)
  have ej : (⟨(h.val * 128 + j.val) % 128, by omega⟩ : Fin 128) = j := Fin.ext (by show (h.val * 128 + j.val) % 128 = j.val; omega)
  unfold outAt
  rw [Ref.v107, dif_pos ht, if_pos ht, Ref.v105, Ref.v103]
  simp only [eh, ej]
  unfold headOut
  refine rmsOut_congr _ _ _ _ j (fun l => ?_) (hg j)
  rw [Ref.v88, Ref.v23]
  have el : (lamOf fun a d => lam (ix2 a d)) = lamOf fun a d => (![x6, x7, x8, x9] a) (ix1 d) := by simp only [hl]
  rw [el]
  have A := context x0 x1 x2 x3 x4 x5 q k v r0 r1 r3 r4 hq hk hv h1 b t ht h
  exact congrArg₂ (· - ·) (A 0 l) (congrArg (_ * ·) (A 1 l))

end Cert.Proof.Diff.Tie

end
-- ==== Proof.Diff.Pre.lean ====
/- Hand-written, untrusted: what the precondition says of the arrays. -/
module

public import proofs.«01_k».proof.Pre_finite
public import Idealize.ShloMosaic.Lib.ReduceAll
public import Idealize.ShloMosaic.Lib.Pointwise

@[expose] public section

noncomputable section

namespace Cert.Proof.Diff

open Idealize.ShloMosaic Idealize.ShloMosaic.TcCoe Idealize.SL.Sem

/-- An extended real whose absolute value is below infinity is a real number. -/
theorem real_of_abs (z : EReal) (h : max z (-z) < Ideal.ofBits .f32 0x7F800000#32) : ∃ r : ℝ, z = (r : EReal) := by
  have e : Ideal.ofBits .f32 0x7F800000#32 = (⊤ : EReal) := by
    simp [Ideal.ofBits, Ideal.ieee]
  rw [e, max_lt_iff] at h
  induction z with
  | bot => simp at h
  | top => simp at h
  | coe r => exact ⟨r, rfl⟩

/-- Of two bits whose conjunction is 1, both are 1. -/
theorem and_one (a b : BitVec 1) : a &&& b = 1#1 → a = 1#1 ∧ b = 1#1 := by
  revert a b; decide

/-- An array whose every entry compares below infinity in absolute value holds real numbers. -/
theorem real_of_all {s : Shape} {axes : List (Fin s.rank)} (x : FVec Ideal s .f32) (y : FVec Ideal s .f32)
    (hy : ∀ i, y i = Ideal.ofBits .f32 0x7F800000#32) (init : IVec ⟨0, ![]⟩ 1) (h : s.ReducesTo axes ⟨0, ![]⟩)
    (hu : 0 < (⟨0, ![]⟩ : Shape).numel) (j : (⟨0, ![]⟩ : Shape).Idx)
    (e : Host.reduce IntOp.andi (cmpf .olt (Host.absf x) y) init h hu j = 1#1) (i : s.Idx) : ∃ r : ℝ, x i = (r : EReal) := by
  haveI : Subsingleton (⟨0, ![]⟩ : Shape).Idx := ⟨fun a b => funext fun k => k.elim0⟩
  have e2 := Host.reduce_andi_all _ init h hu j e i
  refine real_of_abs (x i) ?_
  rw [← hy i]
  by_contra hn
  have e3 : cmpf .olt (Host.absf x) y i = BitVec.ofBool (decide (max (x i) (-(x i)) < y i)) := rfl
  rw [e3, decide_eq_false hn] at e2
  exact absurd e2 (by decide)

/-- The precondition: the queries and keys hold real numbers. -/
theorem finite_real [hp : Cert.Pre_finite.Facts] (x0 x1 x2 : FVec Ideal Cert.Pre_finite.S8x4096x512 .f32) (x3 x4 x5 : FVec Ideal Cert.Pre_finite.S8x256x512 .f32)
    (x6 x7 x8 x9 : FVec Ideal Cert.Pre_finite.S64 .f32) (x10 : FVec Ideal Cert.Pre_finite.S128 .f32)
    (e : Cert.Pre_finite.fn (F := Ideal) x0 x1 x2 x3 x4 x5 x6 x7 x8 x9 x10 = fun _ => 1#1) :
    (∀ i, ∃ r : ℝ, x0 i = (r : EReal)) ∧ (∀ i, ∃ r : ℝ, x1 i = (r : EReal)) ∧ (∀ i, ∃ r : ℝ, x3 i = (r : EReal)) ∧ (∀ i, ∃ r : ℝ, x4 i = (r : EReal)) := by
  have e0 := congrFun e (fun a => a.elim0)
  obtain ⟨ea, eb⟩ := and_one _ _ e0
  obtain ⟨h0, h1⟩ := and_one _ _ ea
  obtain ⟨h3, h4⟩ := and_one _ _ eb
  exact ⟨real_of_all x0 _ (fun _ => rfl) _ _ _ _ h0, real_of_all x1 _ (fun _ => rfl) _ _ _ _ h1,
    real_of_all x3 _ (fun _ => rfl) _ _ _ _ h3, real_of_all x4 _ (fun _ => rfl) _ _ _ _ h4⟩

end Cert.Proof.Diff

end
-- ==== Proof.Diff.Host.lean ====
/- Hand-written, untrusted: the arrays the kernel's call is given, entry by entry, from the program's arguments. -/
module

public import proofs.«01_k».proof.Proof.Gen.KernelIdeal.Value
public import proofs.«01_k».proof.Proof.Diff.Math
public import Idealize.ShloMosaic.Lib.StableHlo.ReadAt

@[expose] public section

set_option maxRecDepth 16384

noncomputable section

namespace Cert.Proof.Diff

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- Context tokens before latent ones: entry `i` of token `t` of the joined array. -/
def joined (xc : Vec Ideal S8x256x512 .f32) (xl : Vec Ideal S8x4096x512 .f32) (b : Fin 8) (t : Fin 4352) (i : Fin 512) : EReal :=
  if h : t.val < 256 then xc (ix3 b ⟨t, h⟩ i) else xl (ix3 b ⟨t - 256, by omega⟩ i)

/-- The host operations before the call. -/
abbrev line : List (HloOp τ sig (Elt Ideal)) := [hostOps0, hostOps0_1, hostOps0_2, hostOps0_3, hostOps0_4].flatten

/-- A buffer no host operation writes is, before any of them, as launched. -/
theorem upto_arg (W : Valuation τ sig (Elt Ideal)) {r : Ref sig .tc}
    (hr : ∀ op ∈ line, Proc.devRef (τ := τ) .tc r ∉ op.writes) (n : ℕ) :
    StableHlo.upto line W n (Proc.devRef .tc r) = W (Proc.devRef .tc r) :=
  StableHlo.after_of_forall_not_mem (b := Proc.devRef .tc r) _ _ (fun op h => hr op (List.mem_of_mem_take h))

theorem arg0_kept : ∀ op ∈ line, Proc.devRef (τ := τ) .tc main_arg0 ∉ op.writes := by
  refine List.forall_iff_forall_mem.mp ?_
  simp only [line, hostOps0, hostOps0_1, hostOps0_2, hostOps0_3, hostOps0_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem arg1_kept : ∀ op ∈ line, Proc.devRef (τ := τ) .tc main_arg1 ∉ op.writes := by
  refine List.forall_iff_forall_mem.mp ?_
  simp only [line, hostOps0, hostOps0_1, hostOps0_2, hostOps0_3, hostOps0_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem arg2_kept : ∀ op ∈ line, Proc.devRef (τ := τ) .tc main_arg2 ∉ op.writes := by
  refine List.forall_iff_forall_mem.mp ?_
  simp only [line, hostOps0, hostOps0_1, hostOps0_2, hostOps0_3, hostOps0_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem arg3_kept : ∀ op ∈ line, Proc.devRef (τ := τ) .tc main_arg3 ∉ op.writes := by
  refine List.forall_iff_forall_mem.mp ?_
  simp only [line, hostOps0, hostOps0_1, hostOps0_2, hostOps0_3, hostOps0_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem arg4_kept : ∀ op ∈ line, Proc.devRef (τ := τ) .tc main_arg4 ∉ op.writes := by
  refine List.forall_iff_forall_mem.mp ?_
  simp only [line, hostOps0, hostOps0_1, hostOps0_2, hostOps0_3, hostOps0_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem arg5_kept : ∀ op ∈ line, Proc.devRef (τ := τ) .tc main_arg5 ∉ op.writes := by
  refine List.forall_iff_forall_mem.mp ?_
  simp only [line, hostOps0, hostOps0_1, hostOps0_2, hostOps0_3, hostOps0_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem arg6_kept : ∀ op ∈ line, Proc.devRef (τ := τ) .tc main_arg6 ∉ op.writes := by
  refine List.forall_iff_forall_mem.mp ?_
  simp only [line, hostOps0, hostOps0_1, hostOps0_2, hostOps0_3, hostOps0_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem arg7_kept : ∀ op ∈ line, Proc.devRef (τ := τ) .tc main_arg7 ∉ op.writes := by
  refine List.forall_iff_forall_mem.mp ?_
  simp only [line, hostOps0, hostOps0_1, hostOps0_2, hostOps0_3, hostOps0_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem arg8_kept : ∀ op ∈ line, Proc.devRef (τ := τ) .tc main_arg8 ∉ op.writes := by
  refine List.forall_iff_forall_mem.mp ?_
  simp only [line, hostOps0, hostOps0_1, hostOps0_2, hostOps0_3, hostOps0_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem arg9_kept : ∀ op ∈ line, Proc.devRef (τ := τ) .tc main_arg9 ∉ op.writes := by
  refine List.forall_iff_forall_mem.mp ?_
  simp only [line, hostOps0, hostOps0_1, hostOps0_2, hostOps0_3, hostOps0_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem v30 (c : Dev nD) (t : Fin 128) : V m c main_v30 (ix2 0 t) = m (c, Proc.tc.devRef main_arg10) (ix1 t) := by
  unfold V
  after_reads_at

theorem v19 (c : Dev nD) (b : Fin 8) (h : Fin 4) (t : Fin 4352) (d : Fin 128) : V m c main_v19 (ix4 b h t d)
    = joined (m (c, Proc.tc.devRef main_arg4)) (m (c, Proc.tc.devRef main_arg1)) b t ⟨h * 128 + d, by omega⟩ := by
  unfold V
  after_reads_at
  rw [upto_arg (fun b => m (c, b)) arg4_kept, upto_arg (fun b => m (c, b)) arg1_kept]
  rfl

theorem v29_0 (c : Dev nD) (d : Fin 64) : V m c main_v29 (ix2 0 d) = m (c, Proc.tc.devRef main_arg6) (ix1 d) := by
  unfold V
  after_reads_at
  rw [StableHlo.unary_result']
  rw [upto_arg (fun b => m (c, b)) arg6_kept]
  pointwise

theorem v29_1 (c : Dev nD) (d : Fin 64) : V m c main_v29 (ix2 1 d) = m (c, Proc.tc.devRef main_arg7) (ix1 d) := by
  unfold V
  after_reads_at
  rw [StableHlo.unary_result']
  rw [upto_arg (fun b => m (c, b)) arg7_kept]
  pointwise

theorem v29_2 (c : Dev nD) (d : Fin 64) : V m c main_v29 (ix2 2 d) = m (c, Proc.tc.devRef main_arg8) (ix1 d) := by
  unfold V
  after_reads_at
  rw [StableHlo.unary_result']
  rw [upto_arg (fun b => m (c, b)) arg8_kept]
  pointwise

theorem v29_3 (c : Dev nD) (d : Fin 64) : V m c main_v29 (ix2 3 d) = m (c, Proc.tc.devRef main_arg9) (ix1 d) := by
  unfold V
  after_reads_at
  rw [StableHlo.unary_result']
  rw [upto_arg (fun b => m (c, b)) arg9_kept]
  pointwise

end Cert.Proof.Diff

end
-- ==== Proof.Diff.Vals.lean ====
/- Hand-written, untrusted: the arrays the kernel's call is given, entry by entry, from the program's arguments. -/
module

public import proofs.«01_k».proof.Proof.Gen.KernelIdeal.Value
public import proofs.«01_k».proof.Proof.Diff.Host
public import Idealize.ShloMosaic.Lib.StableHlo.ReadAt

@[expose] public section

set_option maxRecDepth 16384

noncomputable section

namespace Cert.Proof.Diff

open Cert.KernelIdeal Cert.KernelIdeal.Gen Cert.KernelIdeal.Value Idealize.ShloMosaic Idealize.ShloMosaic.TcCoe Idealize.SL.Sem

variable (m : (ℓ : Loc nD τ sig) → Buf (Elt Ideal) ℓ)

theorem v24_value (c : Dev nD) (b : Fin 8) (h : Fin 4) (t : Fin 4352) (d : Fin 256) (hd : d.val < 128) : V m c main_v24 (ix4 b h t d)
    = joined (m (c, Proc.tc.devRef main_arg5)) (m (c, Proc.tc.devRef main_arg2)) b t ⟨h * 128 + d, by omega⟩ := by
  unfold V
  after_reads_at
  have e5 := upto_arg (fun b => m (c, b)) arg5_kept 8
  have e2 := upto_arg (fun b => m (c, b)) arg2_kept 8
  rw [dif_pos hd]
  simp only [line] at e5 e2
  simp only [e5, e2]
  rfl

theorem v24_one (c : Dev nD) (b : Fin 8) (h : Fin 4) (t : Fin 4352) (d : Fin 256) (hd : ¬d.val < 128) :
    V m c main_v24 (ix4 b h t d) = (1 : EReal) := by
  unfold V
  after_reads_at
  exact dif_neg hd

end Cert.Proof.Diff

end
-- ==== Proof.Diff.Mask.lean ====
/- Hand-written, untrusted: the queries the kernel's call is given, each masked to its map's half of the lanes. -/
module

public import proofs.«01_k».proof.Proof.Gen.KernelIdeal.Value
public import proofs.«01_k».proof.Proof.Diff.Host
public import Idealize.ShloMosaic.Lib.StableHlo.ReadAt

@[expose] public section

set_option maxRecDepth 16384

noncomputable section

namespace Cert.Proof.Diff

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- The choice by a word that says whether a lane is in a map's half. -/
theorem select_half (w : BitVec 1) (x y : ℕ) (A B : EReal) (h : w = if x = y then 1#1 else 0#1) :
    Scalar.select w A B = if x = y then A else B := by
  subst h
  by_cases hd : x = y
  · rw [if_pos hd, if_pos hd]; rfl
  · rw [if_neg hd, if_neg hd]; rfl

theorem v16 (c : Dev nD) (b : Fin 8) (h : Fin 8) (t : Fin 4352) (d : Fin 128) : V m c main_v16 (ix4 b h t d)
    = if d.val / 64 = h.val % 2 then joined (m (c, Proc.tc.devRef main_arg3)) (m (c, Proc.tc.devRef main_arg0)) b t ⟨h / 2 * 128 + d, by omega⟩
        * ((1 / 8 / Real.log 2 : ℝ) : EReal) else 0 := by
  have e3 := upto_arg (fun b => m (c, b)) arg3_kept 0
  have e0 := upto_arg (fun b => m (c, b)) arg0_kept 0
  simp only [line] at e3 e0
  unfold V
  after_reads_at
  simp only [e3, e0]
  simp only [id_eq, constantI, constant]
  refine (select_half _ (d.val / 64) (h.val % 2) _ _ ?_).trans ?_
  · obtain ⟨e, he⟩ : ∃ e : Fin 2, h.val % 2 = e.val := ⟨⟨h.val % 2, Nat.mod_lt _ (by decide)⟩, rfl⟩
    rw [he]
    clear he e3 e0
    revert d e
    decide +kernel
  · by_cases hd : d.val / 64 = h.val % 2
    · simp only [if_pos hd, scale_eq, joined]
    · simp only [if_neg hd, Ideal.ofBits_def, Ideal.ofBits_zero_f32]

end Cert.Proof.Diff

end
-- ==== Proof.Diff.Claim.lean ====
/- Hand-written, untrusted: the differential attention's kernel computes its reference. -/
module

public import proofs.«01_k».proof.Defs
public import proofs.«01_k».proof.Proof.Diff.Tie
public import proofs.«01_k».proof.Proof.Diff.Pre
public import proofs.«01_k».proof.Proof.Diff.Host
public import proofs.«01_k».proof.Proof.Diff.Vals
public import proofs.«01_k».proof.Proof.Diff.Mask
public import proofs.«01_k».proof.Proof.Gen.KernelIdeal.Value
public import proofs.«01_k».proof.Proof.Gen.ReferenceIdeal.Run

@[expose] public section

set_option maxRecDepth 16384

noncomputable section

namespace Cert.Proof.Diff

open Cert.KernelIdeal Cert.KernelIdeal.Gen Cert.KernelIdeal.Value Idealize.ShloMosaic Idealize.ShloMosaic.TcCoe Idealize.SL.Sem

/-- The facts the programs and the precondition state. -/
theorem facts_pre : Cert.Pre_finite.Facts :=
  ⟨by decide, by decide, by decide, by decide, by decide⟩

/-- At every index, what the call leaves is the reference's result of the same arrays. -/
theorem out_eq (m : (ℓ : Loc nD τ sig) → Buf (Elt Ideal) ℓ) (c : Dev nD)
    (r0 : ∀ i, ∃ r : ℝ, (m (c, Proc.tc.devRef main_arg0) : Vec Ideal S8x4096x512 .f32) i = (r : EReal))
    (r1 : ∀ i, ∃ r : ℝ, (m (c, Proc.tc.devRef main_arg1) : Vec Ideal S8x4096x512 .f32) i = (r : EReal))
    (r3 : ∀ i, ∃ r : ℝ, (m (c, Proc.tc.devRef main_arg3) : Vec Ideal S8x256x512 .f32) i = (r : EReal))
    (r4 : ∀ i, ∃ r : ℝ, (m (c, Proc.tc.devRef main_arg4) : Vec Ideal S8x256x512 .f32) i = (r : EReal)) :
    (dats (F := Ideal) m 0 c).arrAt 5 cfg0.N
      = Cert.ReferenceIdeal.Read.val_main_v107 (F := Ideal) (m (c, Proc.tc.devRef main_arg0)) (m (c, Proc.tc.devRef main_arg1))
        (m (c, Proc.tc.devRef main_arg2)) (m (c, Proc.tc.devRef main_arg3)) (m (c, Proc.tc.devRef main_arg4)) (m (c, Proc.tc.devRef main_arg5))
        (m (c, Proc.tc.devRef main_arg6)) (m (c, Proc.tc.devRef main_arg7)) (m (c, Proc.tc.devRef main_arg8)) (m (c, Proc.tc.devRef main_arg9))
        (m (c, Proc.tc.devRef main_arg10)) := by
  rw [final]
  funext i
  obtain ⟨b, t, z, rfl⟩ : ∃ b t z, i = ix3 b t z := ⟨i 0, i 1, i 2, by funext a; fin_cases a <;> rfl⟩
  have ez : (⟨z.val / 128 * 128 + z.val % 128, by omega⟩ : Fin 512) = z := Fin.ext (by show z.val / 128 * 128 + z.val % 128 = z.val; omega)
  have hl : ∀ (a : Fin 4) (d : Fin 64), (V m c main_v29 : Vec Ideal S4x64 .f32) (ix2 a d)
      = ((![m (c, Proc.tc.devRef main_arg6), m (c, Proc.tc.devRef main_arg7), m (c, Proc.tc.devRef main_arg8), m (c, Proc.tc.devRef main_arg9)]
        : Fin 4 → Vec Ideal S64 .f32) a) (ix1 d) := fun a d => by
    match a with
    | ⟨0, _⟩ => exact v29_0 m c d
    | ⟨1, _⟩ => exact v29_1 m c d
    | ⟨2, _⟩ => exact v29_2 m c d
    | ⟨3, _⟩ => exact v29_3 m c d
  show outAt (V m c main_v16) (V m c main_v19) (V m c main_v24) (V m c main_v29) (V m c main_v30) b t ⟨z.val / 128, by omega⟩ ⟨z.val % 128, by omega⟩ = _
  by_cases ht : t.val < 256
  · have e := Tie.context_out _ _ (m (c, Proc.tc.devRef main_arg2)) _ _ (m (c, Proc.tc.devRef main_arg5)) _ _ _ _ (m (c, Proc.tc.devRef main_arg10)) (V m c main_v16) (V m c main_v19)
      (V m c main_v24) (V m c main_v29) (V m c main_v30) r0 r1 r3 r4 (fun b n t d => v16 m c b n t d) (fun b h t d => v19 m c b h t d)
      (fun b h t d hd => v24_value m c b h t d hd) (fun b h t d hd => v24_one m c b h t d hd) hl (fun j => v30 m c j) b t ht ⟨z.val / 128, by omega⟩ ⟨z.val % 128, by omega⟩
    rw [ez] at e
    exact e
  · have e := Tie.latent_out _ _ (m (c, Proc.tc.devRef main_arg2)) _ _ (m (c, Proc.tc.devRef main_arg5)) _ _ _ _ (m (c, Proc.tc.devRef main_arg10)) (V m c main_v16) (V m c main_v19)
      (V m c main_v24) (V m c main_v29) (V m c main_v30) r0 r1 r3 r4 (fun b n t d => v16 m c b n t d) (fun b h t d => v19 m c b h t d)
      (fun b h t d hd => v24_value m c b h t d hd) (fun b h t d hd => v24_one m c b h t d hd) hl (fun j => v30 m c j) b t ht ⟨z.val / 128, by omega⟩ ⟨z.val % 128, by omega⟩
    rw [ez] at e
    exact e

/-- The kernel's program and the reference's end with equal results. -/
theorem algebraic : Cert.algebraic_KernelIdeal_ReferenceIdeal_pre_finite (hKernelIdeal := Cert.KernelIdeal.Gen.facts)
    (hReferenceIdeal := Cert.ReferenceIdeal.Gen.facts) (hPre_finite := facts_pre) := by
  intro m g m' g' hp hm
  refine ⟨fun c => (dats (F := Ideal) m 0 c).arrAt 5 cfg0.N, Cert.KernelIdeal.Value.run_blocks m g, ?_⟩
  refine (θ_run _ _ _).mono (fun r h c => ⟨(h c).1.trans ?_, (h c).2⟩) (Cert.ReferenceIdeal.Value.run m' g')
  obtain ⟨p0, p1, p3, p4⟩ := finite_real (hp := facts_pre) _ _ _ _ _ _ _ _ _ _ _ (hp c)
  obtain ⟨e0, e1, e2, e3, e4, e5, e6, e7, e8, e9, e10⟩ := hm c
  refine Eq.trans (Cert.ReferenceIdeal.Read.val_main_v107_eq m' c) ?_
  rw [e0, e1, e2, e3, e4, e5, e6, e7, e8, e9, e10]
  exact (out_eq m c p0 p1 p3 p4).symm

end Cert.Proof.Diff

end
-- ==== Proof.Ffn.Spec.lean ====
/- Hand-written, untrusted: the plain mathematics both programs of the dense feed-forward are read into, over the extended
   reals. Nothing here mentions a program. -/
module

public import Idealize.ShloMosaic.Lib.Pointwise

@[expose] public section

noncomputable section

namespace Cert.Proof.Ffn

open Idealize.ShloMosaic

/-- Entry `i` of the rms norm of a row `x` of 1024 lanes, times the gain `g`. -/
def rms (x g : Fin 1024 → EReal) (i : Fin 1024) : EReal :=
  x i * Ideal.rsqrt (Ideal.div (∑ l, x l * x l) (Ideal.ofBits .f32 0x44800000#32) + Ideal.ofBits .f32 0x358637BD#32) * g i

/-- `silu`: a number times its logistic function. -/
def silu (a : EReal) : EReal := a * Ideal.div 1 (1 + Ideal.exp (-a))

/-- A row through the gated unit with the weights `wg`, `wu` and `wd`. -/
def mlp (x : Fin 1024 → EReal) (wg wu : Fin 1024 → Fin 2816 → EReal) (wd : Fin 2816 → Fin 1024 → EReal) (i : Fin 1024) : EReal :=
  ∑ f, (silu (∑ l, x l * wg l f) * ∑ l, x l * wu l f) * wd f i

/-- A row normed, scaled and shifted. -/
def modulated (x pre sc sh : Fin 1024 → EReal) (l : Fin 1024) : EReal :=
  rms x pre l * (1 + sc l) + sh l

/-- A row plus its gated feed-forward: the result's row. -/
def rowOut (x sh sc gt pre post : Fin 1024 → EReal) (wg wu : Fin 1024 → Fin 2816 → EReal) (wd : Fin 2816 → Fin 1024 → EReal)
    (i : Fin 1024) : EReal :=
  x i + gt i * rms (mlp (modulated x pre sc sh) wg wu wd) post i

end Cert.Proof.Ffn

end
-- ==== Proof.Ffn.Body.lean ====
/- Hand-written, untrusted: what the feed-forward's body stores for each of its two tiles of 256 rows, read at an index. -/
module

public import proofs.«01_k».proof.Proof.Gen.FfnIdeal.Skeleton
public import proofs.«01_k».proof.Proof.Ffn.Spec

@[expose] public section

set_option maxRecDepth 16384

noncomputable section

namespace Cert.Proof.Ffn

open Cert.FfnIdeal Cert.FfnIdeal.Gen Idealize.ShloMosaic

/-- The first tile's rows, normed, scaled and shifted. -/
theorem pay3 (x : Vec Ideal S256x1024 .f32) (pre : Vec Ideal S1x1024 .f32) (sc sh : Vec Ideal S1x1x1024 .f32) (r : Fin 256) (l : Fin 1024) :
    k0_pay3 (F := Ideal) x pre sc sh (ix2 r l)
      = modulated (fun l => x (ix2 r l)) (fun l => pre (ix2 0 l)) (fun l => sc (ix3 0 0 l)) (fun l => sh (ix3 0 0 l)) l := by
  pointwise [k0_pay3, k0_pay1]
  rfl

/-- The reciprocal root of the mean square of the second tile's rows. -/
theorem pay5 (x : Vec Ideal S256x1024 .f32) (r : Fin 256) :
    k0_pay5 (F := Ideal) x (ix2 r 0)
      = Ideal.rsqrt (Ideal.div (∑ l, x (ix2 r l) * x (ix2 r l)) (Ideal.ofBits .f32 0x44800000#32) + Ideal.ofBits .f32 0x358637BD#32) := by
  pointwise [k0_pay5, k0_pay2]

/-- The gated unit's output on the first tile's rows. -/
theorem pay6_lo (v3 v27 : FVec Ideal S256x1024 .f32) (v29 : FVec Ideal S1x1024 .f32) (v37 : FVec Ideal S256x1 .f32)
    (sc sh : Vec Ideal S1x1x1024 .f32) (wg wu : Vec Ideal S1024x2816 .bf16) (wd : Vec Ideal S2816x1024 .bf16) (r : Fin 256) (i : Fin 1024) :
    k0_pay6 (F := Ideal) v3 v27 v29 v37 sc sh wg wu wd (ix2 (⟨r, by omega⟩ : Fin 512) i)
      = mlp (fun l => v27 (ix2 r l)) (fun l f => wg (ix2 l f)) (fun l f => wu (ix2 l f)) (fun f i => wd (ix2 f i)) i := by
  pointwise [k0_pay6]
  simp only [r.isLt, dif_pos, dite_true, zero_sub]
  rfl

/-- The gated unit's output on the second tile's rows. -/
theorem pay6_hi (x v27 : FVec Ideal S256x1024 .f32) (pre : FVec Ideal S1x1024 .f32)
    (sc sh : Vec Ideal S1x1x1024 .f32) (wg wu : Vec Ideal S1024x2816 .bf16) (wd : Vec Ideal S2816x1024 .bf16) (r : Fin 256) (i : Fin 1024) :
    k0_pay6 (F := Ideal) x v27 pre (k0_pay5 x) sc sh wg wu wd (ix2 (⟨256 + r, by omega⟩ : Fin 512) i)
      = mlp (modulated (fun l => x (ix2 r l)) (fun l => pre (ix2 0 l)) (fun l => sc (ix3 0 0 l)) (fun l => sh (ix3 0 0 l)))
          (fun l f => wg (ix2 l f)) (fun l f => wu (ix2 l f)) (fun f i => wd (ix2 f i)) i := by
  have e := pay5 x r
  generalize k0_pay5 (F := Ideal) x = y at e ⊢
  pointwise [k0_pay6]
  have h : ¬ 256 + r.val < 256 := by omega
  simp only [h, dif_neg, not_false_eq_true, dite_false, zero_sub, Nat.add_sub_cancel_left, e]
  rfl

/-- The first tile's result. -/
theorem pay9 (x : Vec Ideal S256x1024 .f32) (gt : Vec Ideal S1x1x1024 .f32) (z : FVec Ideal S256x1024 .f32) (post : Vec Ideal S1x1024 .f32)
    (r : Fin 256) (i : Fin 1024) :
    k0_pay9 (F := Ideal) (k0_pay1 x) (k0_pay7 gt) z post (ix2 r i)
      = x (ix2 r i) + gt (ix3 0 0 i) * rms (fun l => z (ix2 r l)) (fun l => post (ix2 0 l)) i := by
  pointwise [k0_pay9, k0_pay1, k0_pay7]
  rfl

/-- The second tile's result. -/
theorem pay10 (x : FVec Ideal S256x1024 .f32) (z : FVec Ideal S512x1024 .f32) (gt : Vec Ideal S1x1x1024 .f32) (post : Vec Ideal S1x1024 .f32)
    (r : Fin 256) (i : Fin 1024) :
    k0_pay10 (F := Ideal) x z gt post (ix2 r i)
      = x (ix2 r i) + gt (ix3 0 0 i) * rms (fun l => z (ix2 (⟨256 + r, by omega⟩ : Fin 512) l)) (fun l => post (ix2 0 l)) i := by
  pointwise [k0_pay10]
  rfl

/-- What the body stores for the first tile. -/
theorem tile0 (x x' : Vec Ideal S256x1024 .f32) (pre post : Vec Ideal S1x1024 .f32) (sh sc gt sh' sc' : Vec Ideal S1x1x1024 .f32)
    (wg wu : Vec Ideal S1024x2816 .bf16) (wd : Vec Ideal S2816x1024 .bf16) (r : Fin 256) (i : Fin 1024) :
    k0_pay9 (F := Ideal) (k0_pay1 x) (k0_pay7 gt) (k0_pay8 (k0_pay2 x') (k0_pay3 x pre sc sh) (k0_pay4 pre) (k0_pay5 x') sc' sh' wg wu wd) post (ix2 r i)
      = rowOut (fun l => x (ix2 r l)) (fun l => sh (ix3 0 0 l)) (fun l => sc (ix3 0 0 l)) (fun l => gt (ix3 0 0 l))
          (fun l => pre (ix2 0 l)) (fun l => post (ix2 0 l)) (fun l f => wg (ix2 l f)) (fun l f => wu (ix2 l f)) (fun f i => wd (ix2 f i)) i := by
  rw [pay9]
  have e : ∀ l : Fin 1024, k0_pay8 (F := Ideal) (k0_pay2 x') (k0_pay3 x pre sc sh) (k0_pay4 pre) (k0_pay5 x') sc' sh' wg wu wd (ix2 r l)
      = mlp (modulated (fun l => x (ix2 r l)) (fun l => pre (ix2 0 l)) (fun l => sc (ix3 0 0 l)) (fun l => sh (ix3 0 0 l)))
          (fun l f => wg (ix2 l f)) (fun l f => wu (ix2 l f)) (fun f i => wd (ix2 f i)) l := fun l => by
    unfold k0_pay8
    have p := pay6_lo (k0_pay2 x') (k0_pay3 x pre sc sh) (k0_pay4 pre) (k0_pay5 x') sc' sh' wg wu wd r l
    simp only [pay3] at p
    generalize k0_pay6 (F := Ideal) (k0_pay2 x') (k0_pay3 x pre sc sh) (k0_pay4 pre) (k0_pay5 x') sc' sh' wg wu wd = y at p ⊢
    pointwise
    exact p
  simp only [e]
  rfl

/-- The same at any index. -/
theorem tile0_at (x x' : Vec Ideal S256x1024 .f32) (pre post : Vec Ideal S1x1024 .f32) (sh sc gt sh' sc' : Vec Ideal S1x1x1024 .f32)
    (wg wu : Vec Ideal S1024x2816 .bf16) (wd : Vec Ideal S2816x1024 .bf16) (j : S256x1024.Idx) :
    k0_pay9 (F := Ideal) (k0_pay1 x) (k0_pay7 gt) (k0_pay8 (k0_pay2 x') (k0_pay3 x pre sc sh) (k0_pay4 pre) (k0_pay5 x') sc' sh' wg wu wd) post j
      = rowOut (fun l => x (ix2 (j 0) l)) (fun l => sh (ix3 0 0 l)) (fun l => sc (ix3 0 0 l)) (fun l => gt (ix3 0 0 l))
          (fun l => pre (ix2 0 l)) (fun l => post (ix2 0 l)) (fun l f => wg (ix2 l f)) (fun l f => wu (ix2 l f)) (fun f i => wd (ix2 f i)) (j 1) := by
  idx_vars j
  exact tile0 x x' pre post sh sc gt sh' sc' wg wu wd _ _

/-- What the body stores for the second tile. -/
theorem tile1 (x x' : Vec Ideal S256x1024 .f32) (pre post : Vec Ideal S1x1024 .f32) (sh sc gt sh' sc' : Vec Ideal S1x1x1024 .f32)
    (wg wu : Vec Ideal S1024x2816 .bf16) (wd : Vec Ideal S2816x1024 .bf16) (r : Fin 256) (i : Fin 1024) :
    k0_pay10 (F := Ideal) (k0_pay2 x) (k0_pay6 (k0_pay2 x) (k0_pay3 x' pre sc' sh') (k0_pay4 pre) (k0_pay5 x) sc sh wg wu wd) gt post (ix2 r i)
      = rowOut (fun l => x (ix2 r l)) (fun l => sh (ix3 0 0 l)) (fun l => sc (ix3 0 0 l)) (fun l => gt (ix3 0 0 l))
          (fun l => pre (ix2 0 l)) (fun l => post (ix2 0 l)) (fun l f => wg (ix2 l f)) (fun l f => wu (ix2 l f)) (fun f i => wd (ix2 f i)) i := by
  have e2 : k0_pay2 (F := Ideal) x = x := by funext j; idx_vars j; pointwise [k0_pay2]
  have e4 : k0_pay4 (F := Ideal) pre = pre := by funext j; idx_vars j; pointwise [k0_pay4]
  rw [e2, e4, pay10]
  simp only [pay6_hi]
  rfl

/-- The same at any index. -/
theorem tile1_at (x x' : Vec Ideal S256x1024 .f32) (pre post : Vec Ideal S1x1024 .f32) (sh sc gt sh' sc' : Vec Ideal S1x1x1024 .f32)
    (wg wu : Vec Ideal S1024x2816 .bf16) (wd : Vec Ideal S2816x1024 .bf16) (j : S256x1024.Idx) :
    k0_pay10 (F := Ideal) (k0_pay2 x) (k0_pay6 (k0_pay2 x) (k0_pay3 x' pre sc' sh') (k0_pay4 pre) (k0_pay5 x) sc sh wg wu wd) gt post j
      = rowOut (fun l => x (ix2 (j 0) l)) (fun l => sh (ix3 0 0 l)) (fun l => sc (ix3 0 0 l)) (fun l => gt (ix3 0 0 l))
          (fun l => pre (ix2 0 l)) (fun l => post (ix2 0 l)) (fun l f => wg (ix2 l f)) (fun l f => wu (ix2 l f)) (fun f i => wd (ix2 f i)) (j 1) := by
  idx_vars j
  exact tile1 x x' pre post sh sc gt sh' sc' wg wu wd _ _

end Cert.Proof.Ffn

end
-- ==== Proof.Ffn.Final.lean ====
/- Hand-written, untrusted: the feed-forward's result array as one function of the arrays its call is given. -/
module

public import proofs.«01_k».proof.Proof.Gen.FfnIdeal.Value
public import proofs.«01_k».proof.Proof.Ffn.Body
public import Idealize.ShloMosaic.Lib.Pipeline.ValueKit
public import Idealize.ShloMosaic.Lib.ValueLayout

@[expose] public section

set_option maxRecDepth 16384

noncomputable section

namespace Cert.Proof.Ffn

open Cert.FfnIdeal Cert.FfnIdeal.Gen Cert.FfnIdeal.Value Idealize.ShloMosaic Idealize.ShloMosaic.TcCoe Idealize.SL.Sem

variable (m : (ℓ : Loc nD τ sig) → Buf (Elt Ideal) ℓ)

/-- Whose modulation a tile of 256 rows has: the context's (8) for the first of an image's 17 tiles, else its image's. -/
def who (t : ℕ) : ℕ := if t % 17 = 0 then 8 else t / 17

theorem who_lt (k : ℕ) (hk : k < 6) (t : ℕ) (h : t < 136) : 16 * k + who t < 96 := by
  unfold who; split <;> omega

theorem pt (t : Fin cfg0.N) : t.val < 68 := by
  have := t.isLt; change _ < 68 at this; omega

/-- The result at row `R`, column `i`, from the arrays the call is given. -/
def outAt (x : Vec Ideal S34816x1024 .f32) (mod : Vec Ideal S96x1x1024 .f32) (pre post : Vec Ideal S1x1024 .f32)
    (wg wu : Vec Ideal S1024x2816 .bf16) (wd : Vec Ideal S2816x1024 .bf16) (R : Fin 34816) (i : Fin 1024) : EReal :=
  rowOut (fun l => x (ix2 R l)) (fun l => mod (ix3 ⟨16 * 3 + who (R / 256), who_lt 3 (by norm_num) _ (by omega)⟩ 0 l))
    (fun l => mod (ix3 ⟨16 * 4 + who (R / 256), who_lt 4 (by norm_num) _ (by omega)⟩ 0 l))
    (fun l => mod (ix3 ⟨16 * 5 + who (R / 256), who_lt 5 (by norm_num) _ (by omega)⟩ 0 l))
    (fun l => pre (ix2 0 l)) (fun l => post (ix2 0 l)) (fun l f => wg (ix2 l f)) (fun l f => wu (ix2 l f)) (fun f l => wd (ix2 f l)) i

/-- The result array. -/
def outOf (x : Vec Ideal S34816x1024 .f32) (mod : Vec Ideal S96x1x1024 .f32) (pre post : Vec Ideal S1x1024 .f32)
    (wg wu : Vec Ideal S1024x2816 .bf16) (wd : Vec Ideal S2816x1024 .bf16) : Vec Ideal S34816x1024 .f32 :=
  fun i => outAt x mod pre post wg wu wd (i 0) (i 1)

theorem idx0 : ∀ t : Fin cfg0.N, win0_0.index t = ![t.val, 0] := (by decide +kernel : ∀ t : Fin grid0.N, _)
theorem idx12 : ∀ t : Fin cfg0.N, win0_12.index t = ![t.val, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx1 : ∀ t : Fin cfg0.N, win0_1.index t = ![48 + who (2 * t.val + 0), 0, 0] := (by decide +kernel : ∀ t : Fin grid0.N, _)
theorem idx2 : ∀ t : Fin cfg0.N, win0_2.index t = ![64 + who (2 * t.val + 0), 0, 0] := (by decide +kernel : ∀ t : Fin grid0.N, _)
theorem idx3 : ∀ t : Fin cfg0.N, win0_3.index t = ![80 + who (2 * t.val + 0), 0, 0] := (by decide +kernel : ∀ t : Fin grid0.N, _)
theorem idx4 : ∀ t : Fin cfg0.N, win0_4.index t = ![48 + who (2 * t.val + 1), 0, 0] := (by decide +kernel : ∀ t : Fin grid0.N, _)
theorem idx5 : ∀ t : Fin cfg0.N, win0_5.index t = ![64 + who (2 * t.val + 1), 0, 0] := (by decide +kernel : ∀ t : Fin grid0.N, _)
theorem idx6 : ∀ t : Fin cfg0.N, win0_6.index t = ![80 + who (2 * t.val + 1), 0, 0] := (by decide +kernel : ∀ t : Fin grid0.N, _)

/-- A block of the rows at a grid point, entry by entry. -/
theorem blk0 (t : Fin cfg0.N) (Z : Vec Ideal S34816x1024 .f32) (r : Fin 512) (l : Fin 1024) :
    View.read (Elt Ideal) ((cfg0.win 0).blk t).view Z (ix2 r l) = Z (ix2 ⟨t.val * 512 + r, by have := pt t; omega⟩ l) := by
  have i := idx0 t
  have e0 := congrFun i (0 : Fin 2)
  have e1 := congrFun i (1 : Fin 2)
  change Z (((cfg0.win 0).blk t).view.emb (ix2 r l)) = _
  refine congrArg Z (funext fun z => Fin.ext ?_)
  match z with
  | ⟨0, _⟩ => show win0_0.index t (0 : Fin 2) * 512 + 1 * r.val = t.val * 512 + r.val; simp only [e0]; simp
  | ⟨1, _⟩ => show win0_0.index t (1 : Fin 2) * 1024 + 1 * l.val = l.val; simp only [e1]; simp

/-- A block of the modulation's rows at a grid point, entry by entry. -/
theorem blk1 (t : Fin cfg0.N) (Z : Vec Ideal S96x1x1024 .f32) (l : Fin 1024) :
    View.read (Elt Ideal) ((cfg0.win 1).blk t).view Z (ix3 0 0 l) = Z (ix3 ⟨48 + who (2 * t.val + 0), who_lt 3 (by norm_num) (2 * t.val + 0) (by have := pt t; omega)⟩ 0 l) := by
  have i := idx1 t
  have e0 := congrFun i (0 : Fin 3)
  have e1 := congrFun i (1 : Fin 3)
  have e2 := congrFun i (2 : Fin 3)
  change Z (((cfg0.win 1).blk t).view.emb (ix3 0 0 l)) = _
  refine congrArg Z (funext fun z => Fin.ext ?_)
  match z with
  | ⟨0, _⟩ => show win0_1.index t (0 : Fin 3) * 1 + 1 * 0 = 48 + who (2 * t.val + 0); simp only [e0]; simp
  | ⟨1, _⟩ => show win0_1.index t (1 : Fin 3) * 1 + 1 * 0 = 0; simp only [e1]; simp
  | ⟨2, _⟩ => show win0_1.index t (2 : Fin 3) * 1024 + 1 * l.val = l.val; simp only [e2]; simp

/-- A block of the modulation's rows at a grid point, entry by entry. -/
theorem blk2 (t : Fin cfg0.N) (Z : Vec Ideal S96x1x1024 .f32) (l : Fin 1024) :
    View.read (Elt Ideal) ((cfg0.win 2).blk t).view Z (ix3 0 0 l) = Z (ix3 ⟨64 + who (2 * t.val + 0), who_lt 4 (by norm_num) (2 * t.val + 0) (by have := pt t; omega)⟩ 0 l) := by
  have i := idx2 t
  have e0 := congrFun i (0 : Fin 3)
  have e1 := congrFun i (1 : Fin 3)
  have e2 := congrFun i (2 : Fin 3)
  change Z (((cfg0.win 2).blk t).view.emb (ix3 0 0 l)) = _
  refine congrArg Z (funext fun z => Fin.ext ?_)
  match z with
  | ⟨0, _⟩ => show win0_2.index t (0 : Fin 3) * 1 + 1 * 0 = 64 + who (2 * t.val + 0); simp only [e0]; simp
  | ⟨1, _⟩ => show win0_2.index t (1 : Fin 3) * 1 + 1 * 0 = 0; simp only [e1]; simp
  | ⟨2, _⟩ => show win0_2.index t (2 : Fin 3) * 1024 + 1 * l.val = l.val; simp only [e2]; simp

/-- A block of the modulation's rows at a grid point, entry by entry. -/
theorem blk3 (t : Fin cfg0.N) (Z : Vec Ideal S96x1x1024 .f32) (l : Fin 1024) :
    View.read (Elt Ideal) ((cfg0.win 3).blk t).view Z (ix3 0 0 l) = Z (ix3 ⟨80 + who (2 * t.val + 0), who_lt 5 (by norm_num) (2 * t.val + 0) (by have := pt t; omega)⟩ 0 l) := by
  have i := idx3 t
  have e0 := congrFun i (0 : Fin 3)
  have e1 := congrFun i (1 : Fin 3)
  have e2 := congrFun i (2 : Fin 3)
  change Z (((cfg0.win 3).blk t).view.emb (ix3 0 0 l)) = _
  refine congrArg Z (funext fun z => Fin.ext ?_)
  match z with
  | ⟨0, _⟩ => show win0_3.index t (0 : Fin 3) * 1 + 1 * 0 = 80 + who (2 * t.val + 0); simp only [e0]; simp
  | ⟨1, _⟩ => show win0_3.index t (1 : Fin 3) * 1 + 1 * 0 = 0; simp only [e1]; simp
  | ⟨2, _⟩ => show win0_3.index t (2 : Fin 3) * 1024 + 1 * l.val = l.val; simp only [e2]; simp

/-- A block of the modulation's rows at a grid point, entry by entry. -/
theorem blk4 (t : Fin cfg0.N) (Z : Vec Ideal S96x1x1024 .f32) (l : Fin 1024) :
    View.read (Elt Ideal) ((cfg0.win 4).blk t).view Z (ix3 0 0 l) = Z (ix3 ⟨48 + who (2 * t.val + 1), who_lt 3 (by norm_num) (2 * t.val + 1) (by have := pt t; omega)⟩ 0 l) := by
  have i := idx4 t
  have e0 := congrFun i (0 : Fin 3)
  have e1 := congrFun i (1 : Fin 3)
  have e2 := congrFun i (2 : Fin 3)
  change Z (((cfg0.win 4).blk t).view.emb (ix3 0 0 l)) = _
  refine congrArg Z (funext fun z => Fin.ext ?_)
  match z with
  | ⟨0, _⟩ => show win0_4.index t (0 : Fin 3) * 1 + 1 * 0 = 48 + who (2 * t.val + 1); simp only [e0]; simp
  | ⟨1, _⟩ => show win0_4.index t (1 : Fin 3) * 1 + 1 * 0 = 0; simp only [e1]; simp
  | ⟨2, _⟩ => show win0_4.index t (2 : Fin 3) * 1024 + 1 * l.val = l.val; simp only [e2]; simp

/-- A block of the modulation's rows at a grid point, entry by entry. -/
theorem blk5 (t : Fin cfg0.N) (Z : Vec Ideal S96x1x1024 .f32) (l : Fin 1024) :
    View.read (Elt Ideal) ((cfg0.win 5).blk t).view Z (ix3 0 0 l) = Z (ix3 ⟨64 + who (2 * t.val + 1), who_lt 4 (by norm_num) (2 * t.val + 1) (by have := pt t; omega)⟩ 0 l) := by
  have i := idx5 t
  have e0 := congrFun i (0 : Fin 3)
  have e1 := congrFun i (1 : Fin 3)
  have e2 := congrFun i (2 : Fin 3)
  change Z (((cfg0.win 5).blk t).view.emb (ix3 0 0 l)) = _
  refine congrArg Z (funext fun z => Fin.ext ?_)
  match z with
  | ⟨0, _⟩ => show win0_5.index t (0 : Fin 3) * 1 + 1 * 0 = 64 + who (2 * t.val + 1); simp only [e0]; simp
  | ⟨1, _⟩ => show win0_5.index t (1 : Fin 3) * 1 + 1 * 0 = 0; simp only [e1]; simp
  | ⟨2, _⟩ => show win0_5.index t (2 : Fin 3) * 1024 + 1 * l.val = l.val; simp only [e2]; simp

/-- A block of the modulation's rows at a grid point, entry by entry. -/
theorem blk6 (t : Fin cfg0.N) (Z : Vec Ideal S96x1x1024 .f32) (l : Fin 1024) :
    View.read (Elt Ideal) ((cfg0.win 6).blk t).view Z (ix3 0 0 l) = Z (ix3 ⟨80 + who (2 * t.val + 1), who_lt 5 (by norm_num) (2 * t.val + 1) (by have := pt t; omega)⟩ 0 l) := by
  have i := idx6 t
  have e0 := congrFun i (0 : Fin 3)
  have e1 := congrFun i (1 : Fin 3)
  have e2 := congrFun i (2 : Fin 3)
  change Z (((cfg0.win 6).blk t).view.emb (ix3 0 0 l)) = _
  refine congrArg Z (funext fun z => Fin.ext ?_)
  match z with
  | ⟨0, _⟩ => show win0_6.index t (0 : Fin 3) * 1 + 1 * 0 = 80 + who (2 * t.val + 1); simp only [e0]; simp
  | ⟨1, _⟩ => show win0_6.index t (1 : Fin 3) * 1 + 1 * 0 = 0; simp only [e1]; simp
  | ⟨2, _⟩ => show win0_6.index t (2 : Fin 3) * 1024 + 1 * l.val = l.val; simp only [e2]; simp

/-- A block of the first gain at a grid point, entry by entry. -/
theorem blk7 (t : Fin cfg0.N) (Z : Vec Ideal S1x1024 .f32) (r : Fin 1) (l : Fin 1024) :
    View.read (Elt Ideal) ((cfg0.win 7).blk t).view Z (ix2 r l) = Z (ix2 r l) := by
  have i := idx7 t
  have e0 := congrFun i (0 : Fin 2)
  have e1 := congrFun i (1 : Fin 2)
  change Z (((cfg0.win 7).blk t).view.emb (ix2 r l)) = _
  refine congrArg Z (funext fun z => Fin.ext ?_)
  match z with
  | ⟨0, _⟩ => show win0_7.index t (0 : Fin 2) * 1 + 1 * r.val = r.val; simp only [e0]; simp
  | ⟨1, _⟩ => show win0_7.index t (1 : Fin 2) * 1024 + 1 * l.val = l.val; simp only [e1]; simp

/-- A block of the second gain at a grid point, entry by entry. -/
theorem blk8 (t : Fin cfg0.N) (Z : Vec Ideal S1x1024 .f32) (r : Fin 1) (l : Fin 1024) :
    View.read (Elt Ideal) ((cfg0.win 8).blk t).view Z (ix2 r l) = Z (ix2 r l) := by
  have i := idx8 t
  have e0 := congrFun i (0 : Fin 2)
  have e1 := congrFun i (1 : Fin 2)
  change Z (((cfg0.win 8).blk t).view.emb (ix2 r l)) = _
  refine congrArg Z (funext fun z => Fin.ext ?_)
  match z with
  | ⟨0, _⟩ => show win0_8.index t (0 : Fin 2) * 1 + 1 * r.val = r.val; simp only [e0]; simp
  | ⟨1, _⟩ => show win0_8.index t (1 : Fin 2) * 1024 + 1 * l.val = l.val; simp only [e1]; simp

/-- A block of the gate weights at a grid point, entry by entry. -/
theorem blk9 (t : Fin cfg0.N) (Z : Vec Ideal S1024x2816 .bf16) (r : Fin 1024) (l : Fin 2816) :
    View.read (Elt Ideal) ((cfg0.win 9).blk t).view Z (ix2 r l) = Z (ix2 r l) := by
  have i := idx9 t
  have e0 := congrFun i (0 : Fin 2)
  have e1 := congrFun i (1 : Fin 2)
  change Z (((cfg0.win 9).blk t).view.emb (ix2 r l)) = _
  refine congrArg Z (funext fun z => Fin.ext ?_)
  match z with
  | ⟨0, _⟩ => show win0_9.index t (0 : Fin 2) * 1024 + 1 * r.val = r.val; simp only [e0]; simp
  | ⟨1, _⟩ => show win0_9.index t (1 : Fin 2) * 2816 + 1 * l.val = l.val; simp only [e1]; simp

/-- A block of the up weights at a grid point, entry by entry. -/
theorem blk10 (t : Fin cfg0.N) (Z : Vec Ideal S1024x2816 .bf16) (r : Fin 1024) (l : Fin 2816) :
    View.read (Elt Ideal) ((cfg0.win 10).blk t).view Z (ix2 r l) = Z (ix2 r l) := by
  have i := idx10 t
  have e0 := congrFun i (0 : Fin 2)
  have e1 := congrFun i (1 : Fin 2)
  change Z (((cfg0.win 10).blk t).view.emb (ix2 r l)) = _
  refine congrArg Z (funext fun z => Fin.ext ?_)
  match z with
  | ⟨0, _⟩ => show win0_10.index t (0 : Fin 2) * 1024 + 1 * r.val = r.val; simp only [e0]; simp
  | ⟨1, _⟩ => show win0_10.index t (1 : Fin 2) * 2816 + 1 * l.val = l.val; simp only [e1]; simp

/-- A block of the down weights at a grid point, entry by entry. -/
theorem blk11 (t : Fin cfg0.N) (Z : Vec Ideal S2816x1024 .bf16) (r : Fin 2816) (l : Fin 1024) :
    View.read (Elt Ideal) ((cfg0.win 11).blk t).view Z (ix2 r l) = Z (ix2 r l) := by
  have i := idx11 t
  have e0 := congrFun i (0 : Fin 2)
  have e1 := congrFun i (1 : Fin 2)
  change Z (((cfg0.win 11).blk t).view.emb (ix2 r l)) = _
  refine congrArg Z (funext fun z => Fin.ext ?_)
  match z with
  | ⟨0, _⟩ => show win0_11.index t (0 : Fin 2) * 2816 + 1 * r.val = r.val; simp only [e0]; simp
  | ⟨1, _⟩ => show win0_11.index t (1 : Fin 2) * 1024 + 1 * l.val = l.val; simp only [e1]; simp

/-- The place of a block's entry in the result array. -/
theorem place (x : Vec Ideal S34816x1024 .f32) (mod : Vec Ideal S96x1x1024 .f32) (pre post : Vec Ideal S1x1024 .f32)
    (wg wu : Vec Ideal S1024x2816 .bf16) (wd : Vec Ideal S2816x1024 .bf16) (t : Fin cfg0.N) (y : S512x1024.Idx) (r : Fin 512) (i : Fin 1024)
    (h0 : (y 0).val = r.val) (h1 : (y 1).val = i.val) :
    outAt x mod pre post wg wu wd ⟨t.val * 512 + r, by have := pt t; omega⟩ i
      = outOf x mod pre post wg wu wd (((View.whole main_v13).slice (win0_12.rect t)).emb y) := by
  have e0 : win0_12.index t (0 : Fin 2) = t.val := congrFun (idx12 t) (0 : Fin 2)
  have e1 : win0_12.index t (1 : Fin 2) = 0 := congrFun (idx12 t) (1 : Fin 2)
  have e : ((View.whole main_v13).slice (win0_12.rect t)).emb y
      = ix2 (⟨t.val * 512 + r, by have := pt t; omega⟩ : Fin 34816) i := by
    refine funext fun z => Fin.ext ?_
    match z with
    | ⟨0, _⟩ => show win0_12.index t (0 : Fin 2) * 512 + 1 * (y 0).val = t.val * 512 + r; omega
    | ⟨1, _⟩ => show win0_12.index t (1 : Fin 2) * 1024 + 1 * (y 1).val = i; omega
  rw [e]
  rfl

/-- The output of equal arrays is equal. -/
theorem rowOut_congr {x x' sh sh' sc sc' gt gt' pre pre' post post' : Fin 1024 → EReal} {wg wg' wu wu' : Fin 1024 → Fin 2816 → EReal}
    {wd wd' : Fin 2816 → Fin 1024 → EReal} (i : Fin 1024) (hx : x = x') (hs : sh = sh') (hc : sc = sc') (hg : gt = gt')
    (hp : pre = pre') (hq : post = post') (h1 : wg = wg') (h2 : wu = wu') (h3 : wd = wd') :
    rowOut x sh sc gt pre post wg wu wd i = rowOut x' sh' sc' gt' pre' post' wg' wu' wd' i := by
  subst hx hs hc hg hp hq h1 h2 h3; rfl

/-- Rows of a block. -/
theorem ldRow (X : Vec Ideal S512x1024 .f32) (o : ℕ) (inb) (r : Fin 256) (l : Fin 1024) (ho : o + r.val < 512) :
    View.ld X (Rect.unit (s := S512x1024) ![o, 0] ![256, 1024] inb) (ix2 r l) = X (ix2 ⟨o + r, ho⟩ l) := by
  refine congrArg X (funext fun z => Fin.ext ?_)
  match z with
  | ⟨0, _⟩ => show o + 1 * r.val = o + r.val; omega
  | ⟨1, _⟩ => show 0 + 1 * l.val = l.val; omega

/-- A whole block of one row of three axes. -/
theorem ldMod (X : Vec Ideal S1x1x1024 .f32) (inb) (l : Fin 1024) :
    View.ld X (Rect.unit (s := S1x1x1024) ![0, 0, 0] ![1, 1, 1024] inb) (ix3 0 0 l) = X (ix3 0 0 l) := by
  refine congrArg X (funext fun z => Fin.ext ?_)
  match z with
  | ⟨0, _⟩ => rfl
  | ⟨1, _⟩ => rfl
  | ⟨2, _⟩ => show 0 + 1 * l.val = l.val; omega

/-- A whole block of two axes. -/
theorem ldWhole {n d : ℕ} {e : EltTy} (X : Vec Ideal ⟨2, ![n, d]⟩ e) (inb) (a : Fin n) (l : Fin d) :
    View.ld X (Rect.unit (s := ⟨2, ![n, d]⟩) ![0, 0] ![n, d] inb) (ix2 a l) = X (ix2 a l) := by
  refine congrArg X (funext fun z => Fin.ext ?_)
  match z with
  | ⟨0, _⟩ => show 0 + 1 * a.val = a.val; omega
  | ⟨1, _⟩ => show 0 + 1 * l.val = l.val; omega

/-- An entry of tile 0 of a grid point, read out of its blocks, is the result's. -/
theorem piece0 (c : Dev nD) (t : Fin cfg0.N) (inb0 inb1 inb2 inb3 inb4 inb5 inb6 inb7 inb8) (r : Fin 256) (i : Fin 1024) :
    rowOut (fun l => View.ld (iblk m c 0 t) (Rect.unit (s := S512x1024) ![0, 0] ![256, 1024] inb0) (ix2 r l))
      (fun l => View.ld (iblk m c 1 t) (Rect.unit (s := S1x1x1024) ![0, 0, 0] ![1, 1, 1024] inb1) (ix3 0 0 l))
      (fun l => View.ld (iblk m c 2 t) (Rect.unit (s := S1x1x1024) ![0, 0, 0] ![1, 1, 1024] inb2) (ix3 0 0 l))
      (fun l => View.ld (iblk m c 3 t) (Rect.unit (s := S1x1x1024) ![0, 0, 0] ![1, 1, 1024] inb3) (ix3 0 0 l))
      (fun l => View.ld (iblk m c 7 t) (Rect.unit (s := S1x1024) ![0, 0] ![1, 1024] inb4) (ix2 0 l))
      (fun l => View.ld (iblk m c 8 t) (Rect.unit (s := S1x1024) ![0, 0] ![1, 1024] inb5) (ix2 0 l))
      (fun l f => View.ld (iblk m c 9 t) (Rect.unit (s := S1024x2816) ![0, 0] ![1024, 2816] inb6) (ix2 l f))
      (fun l f => View.ld (iblk m c 10 t) (Rect.unit (s := S1024x2816) ![0, 0] ![1024, 2816] inb7) (ix2 l f))
      (fun f l => View.ld (iblk m c 11 t) (Rect.unit (s := S2816x1024) ![0, 0] ![2816, 1024] inb8) (ix2 f l)) i
    = outAt (V m c main_v12) (V m c main_v6) (V m c main_v7) (V m c main_v8) (V m c main_v9) (V m c main_v10) (V m c main_v11)
        ⟨t.val * 512 + (0 + r.val), by have := pt t; omega⟩ i := by
  have e : (t.val * 512 + (0 + r.val)) / 256 = 2 * t.val + 0 := by omega
  unfold outAt
  refine rowOut_congr i ?_ ?_ ?_ ?_ ?_ ?_ ?_ ?_ ?_
  · funext l; exact (ldRow _ 0 inb0 r l (by omega)).trans (blk0 t (V m c main_v12) _ l)
  · funext l; simp only [e]; exact (ldMod _ inb1 l).trans (blk1 t (V m c main_v6) l)
  · funext l; simp only [e]; exact (ldMod _ inb2 l).trans (blk2 t (V m c main_v6) l)
  · funext l; simp only [e]; exact (ldMod _ inb3 l).trans (blk3 t (V m c main_v6) l)
  · funext l; exact (ldWhole (n := 1) (d := 1024) _ inb4 0 l).trans (blk7 t (V m c main_v7) 0 l)
  · funext l; exact (ldWhole (n := 1) (d := 1024) _ inb5 0 l).trans (blk8 t (V m c main_v8) 0 l)
  · funext l f; exact (ldWhole (n := 1024) (d := 2816) _ inb6 l f).trans (blk9 t (V m c main_v9) l f)
  · funext l f; exact (ldWhole (n := 1024) (d := 2816) _ inb7 l f).trans (blk10 t (V m c main_v10) l f)
  · funext f l; exact (ldWhole (n := 2816) (d := 1024) _ inb8 f l).trans (blk11 t (V m c main_v11) f l)

/-- An entry of tile 1 of a grid point, read out of its blocks, is the result's. -/
theorem piece1 (c : Dev nD) (t : Fin cfg0.N) (inb0 inb1 inb2 inb3 inb4 inb5 inb6 inb7 inb8) (r : Fin 256) (i : Fin 1024) :
    rowOut (fun l => View.ld (iblk m c 0 t) (Rect.unit (s := S512x1024) ![256, 0] ![256, 1024] inb0) (ix2 r l))
      (fun l => View.ld (iblk m c 4 t) (Rect.unit (s := S1x1x1024) ![0, 0, 0] ![1, 1, 1024] inb1) (ix3 0 0 l))
      (fun l => View.ld (iblk m c 5 t) (Rect.unit (s := S1x1x1024) ![0, 0, 0] ![1, 1, 1024] inb2) (ix3 0 0 l))
      (fun l => View.ld (iblk m c 6 t) (Rect.unit (s := S1x1x1024) ![0, 0, 0] ![1, 1, 1024] inb3) (ix3 0 0 l))
      (fun l => View.ld (iblk m c 7 t) (Rect.unit (s := S1x1024) ![0, 0] ![1, 1024] inb4) (ix2 0 l))
      (fun l => View.ld (iblk m c 8 t) (Rect.unit (s := S1x1024) ![0, 0] ![1, 1024] inb5) (ix2 0 l))
      (fun l f => View.ld (iblk m c 9 t) (Rect.unit (s := S1024x2816) ![0, 0] ![1024, 2816] inb6) (ix2 l f))
      (fun l f => View.ld (iblk m c 10 t) (Rect.unit (s := S1024x2816) ![0, 0] ![1024, 2816] inb7) (ix2 l f))
      (fun f l => View.ld (iblk m c 11 t) (Rect.unit (s := S2816x1024) ![0, 0] ![2816, 1024] inb8) (ix2 f l)) i
    = outAt (V m c main_v12) (V m c main_v6) (V m c main_v7) (V m c main_v8) (V m c main_v9) (V m c main_v10) (V m c main_v11)
        ⟨t.val * 512 + (256 + r.val), by have := pt t; omega⟩ i := by
  have e : (t.val * 512 + (256 + r.val)) / 256 = 2 * t.val + 1 := by omega
  unfold outAt
  refine rowOut_congr i ?_ ?_ ?_ ?_ ?_ ?_ ?_ ?_ ?_
  · funext l; exact (ldRow _ 256 inb0 r l (by omega)).trans (blk0 t (V m c main_v12) _ l)
  · funext l; simp only [e]; exact (ldMod _ inb1 l).trans (blk4 t (V m c main_v6) l)
  · funext l; simp only [e]; exact (ldMod _ inb2 l).trans (blk5 t (V m c main_v6) l)
  · funext l; simp only [e]; exact (ldMod _ inb3 l).trans (blk6 t (V m c main_v6) l)
  · funext l; exact (ldWhole (n := 1) (d := 1024) _ inb4 0 l).trans (blk7 t (V m c main_v7) 0 l)
  · funext l; exact (ldWhole (n := 1) (d := 1024) _ inb5 0 l).trans (blk8 t (V m c main_v8) 0 l)
  · funext l f; exact (ldWhole (n := 1024) (d := 2816) _ inb6 l f).trans (blk9 t (V m c main_v9) l f)
  · funext l f; exact (ldWhole (n := 1024) (d := 2816) _ inb7 l f).trans (blk10 t (V m c main_v10) l f)
  · funext f l; exact (ldWhole (n := 2816) (d := 1024) _ inb8 f l).trans (blk11 t (V m c main_v11) f l)

set_option maxHeartbeats 400000 in
/-- The result array the grid leaves, as one function of the arrays the call is given. -/
theorem final (c : Dev nD) : (dats (F := Ideal) m 0 c).arrAt 12 cfg0.N
    = outOf (V m c main_v12) (V m c main_v6) (V m c main_v7) (V m c main_v8) (V m c main_v9) (V m c main_v10) (V m c main_v11) := by
  refine (dats m 0 c).arrAt_eq_of_covers 12 _ (by decide +kernel) fun t hf y => ?_
  blk_simp
  rw [after0_12]
  unfold_out out0_12
  canon_tiles x h
  case piece0 =>
    refine (tile1_at _ _ _ _ _ _ _ _ _ _ _ _ x).trans ?_
    refine (piece1 m c t _ _ _ _ _ _ _ _ _ (x 0) (x 1)).trans ?_
    exact place _ _ _ _ _ _ _ t y ⟨256 + (x 0).val, by omega⟩ (x 1) h0 h1
  case piece1 =>
    refine (tile0_at _ _ _ _ _ _ _ _ _ _ _ _ x).trans ?_
    refine (piece0 m c t _ _ _ _ _ _ _ _ _ (x 0) (x 1)).trans ?_
    exact place _ _ _ _ _ _ _ t y ⟨0 + (x 0).val, by omega⟩ (x 1) (by show (y 0).val = 0 + (x 0).val; omega) h1

end Cert.Proof.Ffn

end
-- ==== Proof.Ffn.Host.lean ====
/- Hand-written, untrusted: the arrays the feed-forward's call is given, entry by entry, from the program's arguments. -/
module

public import proofs.«01_k».proof.Proof.Gen.FfnIdeal.Value
public import proofs.«01_k».proof.Proof.Ffn.Spec
public import Idealize.ShloMosaic.Lib.StableHlo.ReadAt

@[expose] public section

set_option maxRecDepth 16384

noncomputable section

namespace Cert.Proof.Ffn

open Cert.FfnIdeal Cert.FfnIdeal.Gen Cert.FfnIdeal.Value Idealize.ShloMosaic Idealize.ShloMosaic.TcCoe Idealize.SL.Sem

variable (m : (ℓ : Loc nD τ sig) → Buf (Elt Ideal) ℓ)

theorem v7 (c : Dev nD) (l : Fin 1024) : V m c main_v7 (ix2 0 l) = m (c, Proc.tc.devRef main_arg4) (ix1 l) := by
  unfold V
  after_reads_at

theorem v8 (c : Dev nD) (l : Fin 1024) : V m c main_v8 (ix2 0 l) = m (c, Proc.tc.devRef main_arg5) (ix1 l) := by
  unfold V
  after_reads_at

theorem v9 (c : Dev nD) (l : Fin 1024) (f : Fin 2816) : V m c main_v9 (ix2 l f) = m (c, Proc.tc.devRef main_arg6) (ix2 l f) := by
  unfold V
  after_reads_at

theorem v10 (c : Dev nD) (l : Fin 1024) (f : Fin 2816) : V m c main_v10 (ix2 l f) = m (c, Proc.tc.devRef main_arg7) (ix2 l f) := by
  unfold V
  after_reads_at

theorem v11 (c : Dev nD) (l : Fin 2816) (f : Fin 1024) : V m c main_v11 (ix2 l f) = m (c, Proc.tc.devRef main_arg8) (ix2 l f) := by
  unfold V
  after_reads_at

/-- The host operations before the call. -/
abbrev line : List (HloOp τ sig (Elt Ideal)) := hostOps0

/-- A buffer no host operation writes is, before any of them, as launched. -/
theorem upto_arg (W : Valuation τ sig (Elt Ideal)) {r : Ref sig .tc}
    (hr : ∀ op ∈ line, Proc.devRef (τ := τ) .tc r ∉ op.writes) (n : ℕ) :
    StableHlo.upto line W n (Proc.devRef .tc r) = W (Proc.devRef .tc r) :=
  StableHlo.after_of_forall_not_mem (b := Proc.devRef .tc r) _ _ (fun op h => hr op (List.mem_of_mem_take h))

theorem arg2_kept : ∀ op ∈ line, Proc.devRef (τ := τ) .tc main_arg2 ∉ op.writes := by
  refine List.forall_iff_forall_mem.mp ?_
  simp only [line, hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem arg3_kept : ∀ op ∈ line, Proc.devRef (τ := τ) .tc main_arg3 ∉ op.writes := by
  refine List.forall_iff_forall_mem.mp ?_
  simp only [line, hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

/-- The context's modulation as a row, as the joining operation finds it. -/
theorem upto_v1 (W : Valuation τ sig (Elt Ideal)) (i : Fin 6144) :
    StableHlo.upto line W 4 (Proc.devRef .tc main_v1) (ix2 0 i) = W (Proc.devRef .tc main_arg3) (ix1 i) := by
  show StableHlo.after (line.take 4) W (Proc.devRef .tc main_v1) (ix2 0 i) = _
  simp only [line, hostOps0, List.take_succ_cons, List.take_zero]
  after_reads_at

/-- The rows, image by image: the context's, then the latent ones. -/
theorem v12 (c : Dev nD) (R : Fin 34816) (l : Fin 1024) : V m c main_v12 (ix2 R l)
    = if h : R.val % 4352 < 256 then m (c, Proc.tc.devRef main_arg1) (ix3 ⟨R / 4352, by omega⟩ ⟨R % 4352, h⟩ l)
      else m (c, Proc.tc.devRef main_arg0) (ix3 ⟨R / 4352, by omega⟩ ⟨R % 4352 - 256, by omega⟩ l) := by
  unfold V
  after_reads_at
  rfl

/-- An image's row of the modulation. -/
theorem v6_image (c : Dev nD) (k : Fin 6) (b : Fin 8) (l : Fin 1024) : V m c main_v6 (ix3 ⟨16 * k + b, by omega⟩ 0 l)
    = m (c, Proc.tc.devRef main_arg2) (ix2 b ⟨k * 1024 + l, by omega⟩) := by
  have hb : (16 * k.val + b.val) % 16 = b.val := by omega
  unfold V
  after_reads_at
  rw [dif_pos (by omega)]
  refine (congrFun (upto_arg (fun b => m (c, b)) arg2_kept 4) _).trans ?_
  exact congrArg (m (c, Proc.tc.devRef main_arg2)) (congrArg (fun z => ix2 z ⟨k * 1024 + l, by omega⟩) (Fin.ext hb))

/-- The context's row of the modulation. -/
theorem v6_context (c : Dev nD) (k : Fin 6) (l : Fin 1024) : V m c main_v6 (ix3 ⟨16 * k + 8, by omega⟩ 0 l)
    = m (c, Proc.tc.devRef main_arg3) (ix1 ⟨k * 1024 + l, by omega⟩) := by
  have hb : (16 * k.val + 8) % 16 - 8 = 0 := by omega
  unfold V
  after_reads_at
  rw [dif_neg (by omega), dif_pos (by omega)]
  refine Eq.trans (congrArg (StableHlo.upto line (fun b => m (c, b)) 4 (Proc.tc.devRef main_v1))
    (congrArg (fun z : Fin 1 => ix2 z (⟨k * 1024 + l, by omega⟩ : Fin 6144)) (Fin.ext hb))) (upto_v1 _ ⟨k * 1024 + l, by omega⟩)

end Cert.Proof.Ffn

end
-- ==== Proof.Ffn.Ref.lean ====
/- Hand-written, untrusted: the feed-forward's reference, entry by entry. -/
module

public import proofs.«01_k».proof.Proof.Gen.FfnRefIdeal.Read
public import proofs.«01_k».proof.Proof.Ffn.Spec

@[expose] public section

set_option maxRecDepth 16384

noncomputable section

namespace Cert.Proof.Ffn.Ref

open Cert.FfnRefIdeal Cert.FfnRefIdeal.Gen Cert.FfnRefIdeal.Read Idealize.ShloMosaic Idealize.ShloMosaic.TcCoe Idealize.SL.Sem

variable (x0 : Vec Ideal S8x4096x1024 .f32) (x1 : Vec Ideal S8x256x1024 .f32) (x2 : Vec Ideal S8x6144 .f32) (x3 : Vec Ideal S6144 .f32)
  (x4 x5 : Vec Ideal S1024 .f32) (x6 x7 : Vec Ideal S1024x2816 .f32) (x8 : Vec Ideal S2816x1024 .f32)

/-- A latent row, normed, scaled and shifted. -/
theorem v31 (b : Fin 8) (t : Fin 4096) (l : Fin 1024) : val_main_v31 (F := Ideal) x0 x2 x4 (ix3 b t l)
    = modulated (fun l => x0 (ix3 b t l)) (fun l => x4 (ix1 l)) (fun l : Fin 1024 => x2 (ix2 b ⟨4096 + l, by omega⟩)) (fun l : Fin 1024 => x2 (ix2 b ⟨3072 + l, by omega⟩)) l := by
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v0, val_main_v4, val_main_v5, val_main_cst, val_main_cst_0, val_main_cst_1, val_main_cst_2]
  rfl

/-- The gated unit's inner row. -/
theorem v35 (b : Fin 8) (t : Fin 4096) (f : Fin 2816) : val_main_v35 (F := Ideal) x0 x2 x4 x6 x7 (ix3 b t f)
    = silu (∑ l, val_main_v31 (F := Ideal) x0 x2 x4 (ix3 b t l) * x6 (ix2 l f)) * ∑ l, val_main_v31 (F := Ideal) x0 x2 x4 (ix3 b t l) * x7 (ix2 l f) := by
  unfold val_main_v35 val_main_v34 val_main_v33 val_main_call0_v5 val_main_call0_v3 val_main_call0_v1 val_main_call0_v0 val_main_v32
  generalize val_main_v31 (F := Ideal) x0 x2 x4 = y
  pointwise [val_main_call0_v4, val_main_call0_v2, val_main_call0_cst, val_main_call0_cst_0]
  rfl

/-- The gated unit's output. -/
theorem v36 (b : Fin 8) (t : Fin 4096) (l : Fin 1024) : val_main_v36 (F := Ideal) x0 x2 x4 x6 x7 x8 (ix3 b t l)
    = mlp (modulated (fun l => x0 (ix3 b t l)) (fun l => x4 (ix1 l)) (fun l : Fin 1024 => x2 (ix2 b ⟨4096 + l, by omega⟩)) (fun l : Fin 1024 => x2 (ix2 b ⟨3072 + l, by omega⟩))) (fun l f => x6 (ix2 l f)) (fun l f => x7 (ix2 l f)) (fun f l => x8 (ix2 f l)) l := by
  have e : val_main_v36 (F := Ideal) x0 x2 x4 x6 x7 x8 (ix3 b t l)
      = ∑ f : Fin 2816, val_main_v35 (F := Ideal) x0 x2 x4 x6 x7 (ix3 b t f) * x8 (ix2 f l) := by
    unfold val_main_v36
    generalize val_main_v35 (F := Ideal) x0 x2 x4 x6 x7 = y
    pointwise
  rw [e]
  simp only [v35, v31]
  rfl

/-- The latent row's result. -/
theorem v52 (b : Fin 8) (t : Fin 4096) (l : Fin 1024) : val_main_v52 (F := Ideal) x0 x2 x4 x5 x6 x7 x8 (ix3 b t l)
    = rowOut (fun l => x0 (ix3 b t l)) (fun l : Fin 1024 => x2 (ix2 b ⟨3072 + l, by omega⟩)) (fun l : Fin 1024 => x2 (ix2 b ⟨4096 + l, by omega⟩)) (fun l : Fin 1024 => x2 (ix2 b ⟨5120 + l, by omega⟩)) (fun l => x4 (ix1 l)) (fun l => x5 (ix1 l)) (fun l f => x6 (ix2 l f)) (fun l f => x7 (ix2 l f)) (fun f l => x8 (ix2 f l)) l := by
  have e := v36 x0 x2 x4 x6 x7 x8 b t
  unfold val_main_v52 val_main_v51 val_main_v49 val_main_v46 val_main_v45 val_main_v44 val_main_v43 val_main_v41 val_main_v39 val_main_v38 val_main_v37
  generalize val_main_v36 (F := Ideal) x0 x2 x4 x6 x7 x8 = y at e ⊢
  pointwise [val_main_v50, val_main_v48, val_main_v47, val_main_v42, val_main_v40, val_main_v6, val_main_v0, val_main_cst_3, val_main_cst_4, val_main_cst_5]
  simp only [e]
  rfl

/-- A context row, normed, scaled and shifted. -/
theorem v73 (b : Fin 8) (t : Fin 256) (l : Fin 1024) : val_main_v73 (F := Ideal) x1 x3 x4 (ix3 b t l)
    = modulated (fun l => x1 (ix3 b t l)) (fun l => x4 (ix1 l)) (fun l : Fin 1024 => x3 (ix1 ⟨4096 + l, by omega⟩)) (fun l : Fin 1024 => x3 (ix1 ⟨3072 + l, by omega⟩)) l := by
  pointwise [val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v10, val_main_v11, val_main_cst_6, val_main_cst_7, val_main_cst_8, val_main_cst_9]
  rfl

/-- The gated unit's inner row. -/
theorem v77 (b : Fin 8) (t : Fin 256) (f : Fin 2816) : val_main_v77 (F := Ideal) x1 x3 x4 x6 x7 (ix3 b t f)
    = silu (∑ l, val_main_v73 (F := Ideal) x1 x3 x4 (ix3 b t l) * x6 (ix2 l f)) * ∑ l, val_main_v73 (F := Ideal) x1 x3 x4 (ix3 b t l) * x7 (ix2 l f) := by
  unfold val_main_v77 val_main_v76 val_main_v75 val_main_call1_v5 val_main_call1_v3 val_main_call1_v1 val_main_call1_v0 val_main_v74
  generalize val_main_v73 (F := Ideal) x1 x3 x4 = y
  pointwise [val_main_call1_v4, val_main_call1_v2, val_main_call1_cst, val_main_call1_cst_0]
  rfl

/-- The gated unit's output. -/
theorem v78 (b : Fin 8) (t : Fin 256) (l : Fin 1024) : val_main_v78 (F := Ideal) x1 x3 x4 x6 x7 x8 (ix3 b t l)
    = mlp (modulated (fun l => x1 (ix3 b t l)) (fun l => x4 (ix1 l)) (fun l : Fin 1024 => x3 (ix1 ⟨4096 + l, by omega⟩)) (fun l : Fin 1024 => x3 (ix1 ⟨3072 + l, by omega⟩))) (fun l f => x6 (ix2 l f)) (fun l f => x7 (ix2 l f)) (fun f l => x8 (ix2 f l)) l := by
  have e : val_main_v78 (F := Ideal) x1 x3 x4 x6 x7 x8 (ix3 b t l)
      = ∑ f : Fin 2816, val_main_v77 (F := Ideal) x1 x3 x4 x6 x7 (ix3 b t f) * x8 (ix2 f l) := by
    unfold val_main_v78
    generalize val_main_v77 (F := Ideal) x1 x3 x4 x6 x7 = y
    pointwise
  rw [e]
  simp only [v77, v73]
  rfl

/-- The context row's result. -/
theorem v95 (b : Fin 8) (t : Fin 256) (l : Fin 1024) : val_main_v95 (F := Ideal) x1 x3 x4 x5 x6 x7 x8 (ix3 b t l)
    = rowOut (fun l => x1 (ix3 b t l)) (fun l : Fin 1024 => x3 (ix1 ⟨3072 + l, by omega⟩)) (fun l : Fin 1024 => x3 (ix1 ⟨4096 + l, by omega⟩)) (fun l : Fin 1024 => x3 (ix1 ⟨5120 + l, by omega⟩)) (fun l => x4 (ix1 l)) (fun l => x5 (ix1 l)) (fun l f => x6 (ix2 l f)) (fun l f => x7 (ix2 l f)) (fun f l => x8 (ix2 f l)) l := by
  have e := v78 x1 x3 x4 x6 x7 x8 b t
  unfold val_main_v95 val_main_v94 val_main_v91 val_main_v88 val_main_v87 val_main_v86 val_main_v85 val_main_v83 val_main_v81 val_main_v80 val_main_v79
  generalize val_main_v78 (F := Ideal) x1 x3 x4 x6 x7 x8 = y at e ⊢
  pointwise [val_main_v93, val_main_v92, val_main_v90, val_main_v89, val_main_v84, val_main_v82, val_main_v12, val_main_cst_10, val_main_cst_11, val_main_cst_12]
  simp only [e]
  rfl

/-- The result: in each image the context rows, then the latent ones. -/
theorem v97 (R : Fin 34816) (i : Fin 1024) : val_main_v97 (F := Ideal) x0 x1 x2 x3 x4 x5 x6 x7 x8 (ix2 R i)
    = if h : R.val % 4352 < 256 then val_main_v95 (F := Ideal) x1 x3 x4 x5 x6 x7 x8 (ix3 ⟨R / 4352, by omega⟩ ⟨R % 4352, h⟩ i)
      else val_main_v52 (F := Ideal) x0 x2 x4 x5 x6 x7 x8 (ix3 ⟨R / 4352, by omega⟩ ⟨R % 4352 - 256, by omega⟩ i) := by
  unfold val_main_v97 val_main_v96
  generalize val_main_v95 (F := Ideal) x1 x3 x4 x5 x6 x7 x8 = y
  generalize val_main_v52 (F := Ideal) x0 x2 x4 x5 x6 x7 x8 = z
  pointwise

end Cert.Proof.Ffn.Ref

end
-- ==== Proof.Ffn.Claim.lean ====
/- Hand-written, untrusted: the feed-forward's kernel computes its reference. -/
module

public import proofs.«01_k».proof.Defs
public import proofs.«01_k».proof.Proof.Ffn.Final
public import proofs.«01_k».proof.Proof.Ffn.Host
public import proofs.«01_k».proof.Proof.Ffn.Ref
public import proofs.«01_k».proof.Proof.Gen.FfnIdeal.Value
public import proofs.«01_k».proof.Proof.Gen.FfnRefIdeal.Run

@[expose] public section

set_option maxRecDepth 16384

noncomputable section

namespace Cert.Proof.Ffn

open Cert.FfnIdeal Cert.FfnIdeal.Gen Cert.FfnIdeal.Value Idealize.ShloMosaic Idealize.ShloMosaic.TcCoe Idealize.SL.Sem

variable (m : (ℓ : Loc nD τ sig) → Buf (Elt Ideal) ℓ)

theorem mod_image (c : Dev nD) (k b w : ℕ) (hk : k < 6) (hb : b < 8) (l : Fin 1024) (h : 16 * k + w < 96) (e : w = b) :
    V m c main_v6 (ix3 ⟨16 * k + w, h⟩ 0 l) = m (c, Proc.tc.devRef main_arg2) (ix2 ⟨b, hb⟩ ⟨k * 1024 + l, by omega⟩) := by
  subst e
  exact v6_image m c ⟨k, hk⟩ ⟨w, hb⟩ l

theorem mod_context (c : Dev nD) (k w : ℕ) (hk : k < 6) (l : Fin 1024) (h : 16 * k + w < 96) (e : w = 8) :
    V m c main_v6 (ix3 ⟨16 * k + w, h⟩ 0 l) = m (c, Proc.tc.devRef main_arg3) (ix1 ⟨k * 1024 + l, by omega⟩) := by
  subst e
  exact v6_context m c ⟨k, hk⟩ l

/-- A context row of what the call leaves is the reference's. -/
theorem row_context (c : Dev nD) (R : Fin 34816) (i : Fin 1024) (h : R.val % 4352 < 256) :
    outAt (V m c main_v12) (V m c main_v6) (V m c main_v7) (V m c main_v8) (V m c main_v9) (V m c main_v10) (V m c main_v11) R i
      = Cert.FfnRefIdeal.Read.val_main_v95 (F := Ideal) (m (c, Proc.tc.devRef main_arg1)) (m (c, Proc.tc.devRef main_arg3))
          (m (c, Proc.tc.devRef main_arg4)) (m (c, Proc.tc.devRef main_arg5)) (m (c, Proc.tc.devRef main_arg6)) (m (c, Proc.tc.devRef main_arg7))
          (m (c, Proc.tc.devRef main_arg8)) (ix3 ⟨R / 4352, by omega⟩ ⟨R % 4352, h⟩ i) := by
  have hw : who (R.val / 256) = 8 := by unfold who; rw [if_pos (by omega)]
  refine Eq.trans ?_ (Ref.v95 _ _ _ _ _ _ _ _ _ _).symm
  unfold outAt
  refine rowOut_congr i ?_ ?_ ?_ ?_ ?_ ?_ ?_ ?_ ?_
  · funext l; exact (v12 m c R l).trans (dif_pos h)
  · funext l; exact mod_context m c 3 _ (by norm_num) l _ hw
  · funext l; exact mod_context m c 4 _ (by norm_num) l _ hw
  · funext l; exact mod_context m c 5 _ (by norm_num) l _ hw
  · funext l; exact v7 m c l
  · funext l; exact v8 m c l
  · funext l f; exact v9 m c l f
  · funext l f; exact v10 m c l f
  · funext l f; exact v11 m c l f

/-- A latent row of what the call leaves is the reference's. -/
theorem row_latent (c : Dev nD) (R : Fin 34816) (i : Fin 1024) (h : ¬ R.val % 4352 < 256) :
    outAt (V m c main_v12) (V m c main_v6) (V m c main_v7) (V m c main_v8) (V m c main_v9) (V m c main_v10) (V m c main_v11) R i
      = Cert.FfnRefIdeal.Read.val_main_v52 (F := Ideal) (m (c, Proc.tc.devRef main_arg0)) (m (c, Proc.tc.devRef main_arg2))
          (m (c, Proc.tc.devRef main_arg4)) (m (c, Proc.tc.devRef main_arg5)) (m (c, Proc.tc.devRef main_arg6)) (m (c, Proc.tc.devRef main_arg7))
          (m (c, Proc.tc.devRef main_arg8)) (ix3 ⟨R / 4352, by omega⟩ ⟨R % 4352 - 256, by omega⟩ i) := by
  have hw : who (R.val / 256) = R.val / 4352 := by unfold who; rw [if_neg (by omega)]; omega
  refine Eq.trans ?_ (Ref.v52 _ _ _ _ _ _ _ _ _ _).symm
  unfold outAt
  refine rowOut_congr i ?_ ?_ ?_ ?_ ?_ ?_ ?_ ?_ ?_
  · funext l; exact (v12 m c R l).trans (dif_neg h)
  · funext l; exact mod_image m c 3 (R.val / 4352) _ (by norm_num) (by omega) l _ hw
  · funext l; exact mod_image m c 4 (R.val / 4352) _ (by norm_num) (by omega) l _ hw
  · funext l; exact mod_image m c 5 (R.val / 4352) _ (by norm_num) (by omega) l _ hw
  · funext l; exact v7 m c l
  · funext l; exact v8 m c l
  · funext l f; exact v9 m c l f
  · funext l f; exact v10 m c l f
  · funext l f; exact v11 m c l f

/-- What the call leaves is the reference's result of the same arrays. -/
theorem out_eq (c : Dev nD) : (dats (F := Ideal) m 0 c).arrAt 12 cfg0.N
    = Cert.FfnRefIdeal.Read.val_main_v97 (F := Ideal) (m (c, Proc.tc.devRef main_arg0)) (m (c, Proc.tc.devRef main_arg1)) (m (c, Proc.tc.devRef main_arg2))
        (m (c, Proc.tc.devRef main_arg3)) (m (c, Proc.tc.devRef main_arg4)) (m (c, Proc.tc.devRef main_arg5)) (m (c, Proc.tc.devRef main_arg6))
        (m (c, Proc.tc.devRef main_arg7)) (m (c, Proc.tc.devRef main_arg8)) := by
  refine (final m c).trans (funext fun j => ?_)
  obtain ⟨R, i, rfl⟩ : ∃ (R : Fin 34816) (i : Fin 1024), j = ix2 R i := ⟨j 0, j 1, by funext z; match z with | ⟨0, _⟩ => rfl | ⟨1, _⟩ => rfl⟩
  refine Eq.trans ?_ (Ref.v97 _ _ _ _ _ _ _ _ _ R i).symm
  by_cases h : R.val % 4352 < 256
  · refine Eq.trans ?_ (dif_pos h).symm
    exact row_context m c R i h
  · refine Eq.trans ?_ (dif_neg h).symm
    exact row_latent m c R i h

/-- The kernel and the reference leave the same result, from any arguments. -/
theorem algebraic : Cert.algebraic_FfnIdeal_FfnRefIdeal (hFfnIdeal := Cert.FfnIdeal.Gen.facts) (hFfnRefIdeal := Cert.FfnRefIdeal.Gen.facts) := by
  intro m g m' g' _ hm
  refine ⟨fun c => (dats (F := Ideal) m 0 c).arrAt 12 cfg0.N, Cert.FfnIdeal.Value.run_blocks m g, ?_⟩
  refine (θ_run _ _ _).mono (fun r h c => ⟨(h c).1.trans ?_, (h c).2⟩) (Cert.FfnRefIdeal.Value.run m' g')
  obtain ⟨e0, e1, e2, e3, e4, e5, e6, e7, e8⟩ := hm c
  refine Eq.trans (Cert.FfnRefIdeal.Read.val_main_v97_eq m' c) ?_
  rw [e0, e1, e2, e3, e4, e5, e6, e7, e8]
  exact (out_eq m c).symm

end Cert.Proof.Ffn

end
-- ==== Proof.lean ====
module

public import proofs.«01_k».proof.Defs
public import proofs.«01_k».proof.Proof.Experts.Claim
public import proofs.«01_k».proof.Proof.Gen.Kernel.Frame
public import proofs.«01_k».proof.Proof.Gen.KernelIdeal.Frame
public import proofs.«01_k».proof.Proof.Diff.Claim
public import proofs.«01_k».proof.Proof.Gen.Ffn.Frame
public import proofs.«01_k».proof.Proof.Gen.FfnIdeal.Frame
public import proofs.«01_k».proof.Proof.Ffn.Claim

@[expose] public section

noncomputable section

namespace Cert.Proof

open Idealize.ShloMosaic Idealize.SL.Sem

/-- The reference runs and leaves its arguments; it declares no semaphore. -/
theorem frame_r : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- The feed-forward's reference runs and leaves its arguments; it declares no semaphore. -/
theorem frame_r2 : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run m ρ)

theorem claim : Cert.Claim := ⟨Cert.Kernel.Gen.facts, Cert.KernelIdeal.Gen.facts, Cert.ReferenceIdeal.Gen.facts,
  Cert.Experts.Gen.facts, Cert.ExpertsIdeal.Gen.facts, Cert.ExpertsRefIdeal.Gen.facts,
  Cert.Ffn.Gen.facts, Cert.FfnIdeal.Gen.facts, Cert.FfnRefIdeal.Gen.facts, Diff.facts_pre, Cert.Pre_is_index.Gen.facts,
  fun m ρ _ => Cert.Kernel.Gen.frame m ρ, fun m ρ _ => Cert.KernelIdeal.Gen.frame m ρ, fun m ρ _ => Cert.KernelIdeal.Gen.frame m ρ,
  frame_r, fun m ρ _ => frame_r m ρ trivial,
  Experts.frame_k, Experts.frame_i, Experts.frame_r,
  fun m ρ _ => Cert.Ffn.Gen.frame m ρ, fun m ρ _ => Cert.FfnIdeal.Gen.frame m ρ, frame_r2,
  trivial, Diff.algebraic, trivial, Experts.algebraic, trivial, Ffn.algebraic⟩

end Cert.Proof

end
